-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8_0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_in_range.lean ====
abbrev S73728x1024 : Shape := ⟨2, ![73728, 1024]⟩
abbrev S288 : Shape := ⟨1, ![288]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S73728x1024 .f32) (main_arg1 : IVec S288 32) (main_arg2 : IVec S288 32) (main_arg3 : FVec F S32x1024x512 .f32) (main_arg4 : FVec F S32x1024x512 .f32) (main_arg5 : FVec F S32x512x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 1 := constantI S_ 1 1#1
  let main_v2 : IVec S_ 1 := (fun x v => Host.reduce IntOp.andi x v reducesTo_S288_S_d0 h_S_) main_v1 main_c_0
  let main_c_1 : IVec S_ 32 := constantI S_ 32 32#32
  let main_v3 : IVec S288 32 := broadcastInDim S288 ![] bcast_S_S288 main_c_1
  let main_v4 : IVec S288 1 := cmpi .slt main_arg1 main_v3
  let main_c_2 : IVec S_ 1 := constantI S_ 1 1#1
  let main_v5 : IVec S_ 1 := (fun x v => Host.reduce IntOp.andi x v reducesTo_S288_S_d0 h_S_) main_v4 main_c_2
  let main_v6 : IVec S_ 1 := andi main_v2 main_v5
  let main_c_3 : IVec S_ 32 := constantI S_ 32 0#32
  let main_v7 : IVec S288 32 := broadcastInDim S288 ![] bcast_S_S288 main_c_3
  let main_v8 : IVec S288 1 := cmpi .sge main_arg2 main_v7
  let main_c_4 : IVec S_ 1 := constantI S_ 1 1#1
  let main_v9 : IVec S_ 1 := (fun x v => Host.reduce IntOp.andi x v reducesTo_S288_S_d0 h_S_) main_v8 main_c_4
  let main_v10 : IVec S_ 1 := andi main_v6 main_v9
  let main_c_5 : IVec S_ 32 := constantI S_ 32 1#32
  let main_v11 : IVec S288 32 := broadcastInDim S288 ![] bcast_S_S288 main_c_5
  let main_v12 : IVec S288 1 := cmpi .sle main_arg2 main_v11
  let main_c_6 : IVec S_ 1 := constantI S_ 1 1#1
  let main_v13 : IVec S_ 1 := (fun x v => Host.reduce IntOp.andi x v reducesTo_S288_S_d0 h_S_) main_v12 main_c_6
  let main_v14 : IVec S_ 1 := andi main_v10 main_v13
  main_v14
-- ==== Kernel.lean ====
abbrev S73728x1024 : Shape := ⟨2, ![73728, 1024]⟩
abbrev S288 : Shape := ⟨1, ![288]⟩
abbrev S32x1024x512 : Shape := ⟨3, ![32, 1024, 512]⟩
abbrev S32x512x1024 : Shape := ⟨3, ![32, 512, 1024]⟩
abbrev S256x1024 : Shape := ⟨2, ![256, 1024]⟩
abbrev S1 : Shape := ⟨1, ![1]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | .local _ .smem, ⟨1, _⟩ => ⟨S288, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let v2 : BitVec 32 := Scalar.muli arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S73728x1024 : Shape := ⟨2, ![73728, 1024]⟩
abbrev S288 : Shape := ⟨1, ![288]⟩
abbrev S32x1024x512 : Shape := ⟨3, ![32, 1024, 512]⟩
abbrev S32x512x1024 : Shape := ⟨3, ![32, 512, 1024]⟩
abbrev S288x256x1024 : Shape := ⟨3, ![288, 256, 1024]⟩
abbrev S_ : Shape := ⟨0, ![]⟩
abbrev S288x1 : Shape := ⟨2, ![288, 1]⟩
abbrev S288x1024x512 : Shape := ⟨3, ![288, 1024, 512]⟩
abbrev S288x256x512 : Shape := ⟨3, ![288, 256, 512]⟩
abbrev S288x512x1024 : Shape := ⟨3, ![288, 512, 1024]⟩
abbrev S288x1x1 : Shape := ⟨3, ![288, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S288, .i32⟩
  | .hbm, ⟨2, _⟩ => ⟨S288, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S288x256x1024, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x1024x512, .f32⟩
  | .hbm, ⟨16, _⟩ => ⟨S288x256x512, .f32⟩
  | .hbm, ⟨17, _⟩ => ⟨S288x256x512, .f32⟩
  | .hbm, ⟨18, _⟩ => ⟨S288x256x512, .f32⟩
  | .hbm, ⟨19, _⟩ => ⟨S_, .f32⟩
  | .hbm, ⟨20, _⟩ => ⟨S288x256x512, .f32⟩
  | .hbm, ⟨21, _⟩ => ⟨S288x256x512, .f32⟩
  | .hbm, ⟨22, _⟩ => ⟨S_, .f32⟩
  | .hbm, ⟨23, _⟩ => ⟨S288x256x512, .f32⟩
  | .hbm, ⟨24, _⟩ => ⟨S288x256x512, .f32⟩
  | .hbm, ⟨25, _⟩ => ⟨S288x256x512, .f32⟩
  | .hbm, ⟨26, _⟩ => ⟨S_, .i32⟩
  | .hbm, ⟨27, _⟩ => ⟨S288, .i32⟩
  | .hbm, ⟨28, _⟩ => ⟨S288, .i1⟩
  | .hbm, ⟨29, _⟩ => ⟨S_, .i32⟩
  | .hbm, ⟨30, _⟩ => ⟨S288, .i32⟩
  | .hbm, ⟨31, _⟩ => ⟨S288, .i32⟩
  | .hbm, ⟨32, _⟩ => ⟨S288, .i32⟩
  | .hbm, ⟨33, _⟩ => ⟨S288x1, .i32⟩
  | .hbm, ⟨34, _⟩ => ⟨S288x1024x512, .f32⟩
  | .hbm, ⟨35, _⟩ => ⟨S288x256x512, .f32⟩
  | .hbm, ⟨36, _⟩ => ⟨S288x256x512, .f32⟩
  | .hbm, ⟨37, _⟩ => ⟨S_, .i32⟩
  | .hbm, ⟨38, _⟩ => ⟨S288, .i32⟩
  | .hbm, ⟨39, _⟩ => ⟨S288, .i1⟩
  | .hbm, ⟨40, _⟩ => ⟨S_, .i32⟩
  | .hbm, ⟨41, _⟩ => ⟨S288, .i32⟩
  | .hbm, ⟨42, _⟩ => ⟨S288, .i32⟩
  | .hbm, ⟨43, _⟩ => ⟨S288, .i32⟩
  | .hbm, ⟨44, _⟩ => ⟨S288x1, .i32⟩
  | .hbm, ⟨45, _⟩ => ⟨S288x512x1024, .f32⟩
  | .hbm, ⟨46, _⟩ => ⟨S288x256x1024, .f32⟩
  | .hbm, ⟨47, _⟩ => ⟨S288x1x1, .i32⟩
  | .hbm, ⟨48, _⟩ => ⟨S_, .i32⟩
  | .hbm, ⟨49, _⟩ => ⟨S288x1x1, .i32⟩
  | .hbm, ⟨50, _⟩ => ⟨S288x1x1, .i1⟩
  | .hbm, ⟨51, _⟩ => ⟨S_, .f32⟩
  | .hbm, ⟨52, _⟩ => ⟨S_, .f32⟩
  | .hbm, ⟨53, _⟩ => ⟨S288x256x1024, .i1⟩
  | .hbm, ⟨54, _⟩ => ⟨S288x256x1024, .f32⟩
  | .hbm, ⟨55, _⟩ => ⟨S288x256x1024, .f32⟩
  | .hbm, ⟨56, _⟩ => ⟨S73728x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x1024 : Shape := ⟨2, ![1024, 1024]⟩
abbrev S32768x256 : Shape := ⟨2, ![32768, 256]⟩
abbrev S256x1024 : Shape := ⟨2, ![256, 1024]⟩
abbrev S1x1024 : Shape := ⟨2, ![1, 1024]⟩
abbrev S512x1024 : Shape := ⟨2, ![512, 1024]⟩
abbrev S1024x512 : Shape := ⟨2, ![1024, 512]⟩
abbrev S512x256 : Shape := ⟨2, ![512, 256]⟩
abbrev S256x512 : Shape := ⟨2, ![256, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S32768x256, .f32⟩
  | .hbm, ⟨4, _⟩ => ⟨S256x1024, .f32⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x256, .f32⟩
  | .local _ .vmem, ⟨6, _⟩ => ⟨S512x256, .f32⟩
  | .local _ .vmem, ⟨7, _⟩ => ⟨S256x512, .bf16⟩
  | .local _ .vmem, ⟨8, _⟩ => ⟨S256x512, .bf16⟩
  | .local _ .vmem, ⟨9, _⟩ => ⟨S512x512, .f32⟩
  | .local _ .vmem, ⟨10, _⟩ => ⟨S512x512, .f32⟩
  | .local _ .vmem, ⟨11, _⟩ => ⟨S512x1024, .bf16⟩
  | .local _ .vmem, ⟨12, _⟩ => ⟨S512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_off1 (i : grid0.Coords) : Fin 2 → Nat :=
  let c0_12 : Index := 0#32
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  ![0, v20.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S32768x1024 : Shape := ⟨2, ![32768, 1024]⟩
abbrev S1024 : Shape := ⟨1, ![1024]⟩
abbrev S1024x1024 : Shape := ⟨2, ![1024, 1024]⟩
abbrev S32768x256 : Shape := ⟨2, ![32768, 256]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S32768x256, .f32⟩
  | .hbm, ⟨4, _⟩ => ⟨S256x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x4112 : Shape := ⟨2, ![1024, 4112]⟩
abbrev S1024x4096 : Shape := ⟨2, ![1024, 4096]⟩
abbrev S_ : Shape := ⟨0, ![]⟩
abbrev S1x4096 : Shape := ⟨2, ![1, 4096]⟩
abbrev S1x1024 : Shape := ⟨2, ![1, 1024]⟩
abbrev S32768x4096 : Shape := ⟨2, ![32768, 4096]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4112, .f32⟩
  | .hbm, ⟨3, _⟩ => ⟨S1024x4096, .f32⟩
  | .hbm, ⟨4, _⟩ => ⟨S1024x4096, .bf16⟩
  | .hbm, ⟨5, _⟩ => ⟨S_, .f32⟩
  | .hbm, ⟨6, _⟩ => ⟨S1x4096, .f32⟩
  | .hbm, ⟨7, _⟩ => ⟨S1x1024, .f32⟩
  | .hbm, ⟨8, _⟩ => ⟨S32768x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S32768x1024 : Shape := ⟨2, ![32768, 1024]⟩
abbrev S1024 : Shape := ⟨1, ![1024]⟩
abbrev S1024x4112 : Shape := ⟨2, ![1024, 4112]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4112 : Shape := ⟨2, ![32768, 4112]⟩
abbrev S32768x4096 : Shape := ⟨2, ![32768, 4096]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4112, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4112, .f32⟩
  | .hbm, ⟨20, _⟩ => ⟨S32768x4096, .f32⟩
  | .hbm, ⟨21, _⟩ => ⟨S32768x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x1536 : Shape := ⟨2, ![1024, 1536]⟩
abbrev S3x128 : Shape := ⟨2, ![3, 128]⟩
abbrev S1x128 : Shape := ⟨2, ![1, 128]⟩
abbrev S128 : Shape := ⟨1, ![128]⟩
abbrev S4x128 : Shape := ⟨2, ![4, 128]⟩
abbrev S512 : Shape := ⟨1, ![512]⟩
abbrev S1536 : Shape := ⟨1, ![1536]⟩
abbrev S1x1536 : Shape := ⟨2, ![1, 1536]⟩
abbrev S1x1024 : Shape := ⟨2, ![1, 1024]⟩
abbrev S32768x1536 : Shape := ⟨2, ![32768, 1536]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩
abbrev S512x1 : Shape := ⟨2, ![512, 1]⟩
abbrev S512x128 : Shape := ⟨2, ![512, 128]⟩

abbrev nBuf : Space → Nat
  | .hbm => 24
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S3x128, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S4x128, .f32⟩
  | .hbm, ⟨8, _⟩ => ⟨S512, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S4x128, .f32⟩
  | .hbm, ⟨13, _⟩ => ⟨S512, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S4x128, .f32⟩
  | .hbm, ⟨18, _⟩ => ⟨S512, .f32⟩
  | .hbm, ⟨19, _⟩ => ⟨S1536, .f32⟩
  | .hbm, ⟨20, _⟩ => ⟨S1x1536, .f32⟩
  | .hbm, ⟨21, _⟩ => ⟨S1024x1536, .bf16⟩
  | .hbm, ⟨22, _⟩ => ⟨S1x1024, .f32⟩
  | .hbm, ⟨23, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S32768x1024 : Shape := ⟨2, ![32768, 1024]⟩
abbrev S1024 : Shape := ⟨1, ![1024]⟩
abbrev S1024x1536 : Shape := ⟨2, ![1024, 1536]⟩
abbrev S3x128 : Shape := ⟨2, ![3, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1536 : Shape := ⟨2, ![32768, 1536]⟩
abbrev S32768x3x4x128 : Shape := ⟨4, ![32768, 3, 4, 128]⟩
abbrev S3x1x128 : Shape := ⟨3, ![3, 1, 128]⟩
abbrev S32768x3x4 : Shape := ⟨3, ![32768, 3, 4]⟩
abbrev S32768x3x4x1 : Shape := ⟨4, ![32768, 3, 4, 1]⟩
abbrev S1x3x1x128 : Shape := ⟨4, ![1, 3, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S3x128, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1536, .f32⟩
  | .hbm, ⟨21, _⟩ => ⟨S32768x3x4x128, .f32⟩
  | .hbm, ⟨22, _⟩ => ⟨S3x1x128, .f32⟩
  | .hbm, ⟨23, _⟩ => ⟨S32768x3x4x128, .f32⟩
  | .hbm, ⟨24, _⟩ => ⟨S_, .f32⟩
  | .hbm, ⟨25, _⟩ => ⟨S32768x3x4, .f32⟩
  | .hbm, ⟨26, _⟩ => ⟨S32768x3x4x1, .f32⟩
  | .hbm, ⟨27, _⟩ => ⟨S_, .f32⟩
  | .hbm, ⟨28, _⟩ => ⟨S32768x3x4x1, .f32⟩
  | .hbm, ⟨29, _⟩ => ⟨S32768x3x4x1, .f32⟩
  | .hbm, ⟨30, _⟩ => ⟨S_, .f32⟩
  | .hbm, ⟨31, _⟩ => ⟨S32768x3x4x1, .f32⟩
  | .hbm, ⟨32, _⟩ => ⟨S32768x3x4x1, .f32⟩
  | .hbm, ⟨33, _⟩ => ⟨S32768x3x4x1, .f32⟩
  | .hbm, ⟨34, _⟩ => ⟨S32768x3x4x128, .f32⟩
  | .hbm, ⟨35, _⟩ => ⟨S32768x3x4x128, .f32⟩
  | .hbm, ⟨36, _⟩ => ⟨S1x3x1x128, .f32⟩
  | .hbm, ⟨37, _⟩ => ⟨S32768x3x4x128, .f32⟩
  | .hbm, ⟨38, _⟩ => ⟨S32768x3x4x128, .f32⟩
  | .hbm, ⟨39, _⟩ => ⟨S_, .f32⟩
  | .hbm, ⟨40, _⟩ => ⟨S32768x3x4x128, .f32⟩
  | .hbm, ⟨41, _⟩ => ⟨S32768x3x4x128, .f32⟩
  | .hbm, ⟨42, _⟩ => ⟨S32768x1536, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x1536 : Shape := ⟨2, ![1024, 1536]⟩
abbrev S3x128 : Shape := ⟨2, ![3, 128]⟩
abbrev S1x128 : Shape := ⟨2, ![1, 128]⟩
abbrev S128 : Shape := ⟨1, ![128]⟩
abbrev S4x128 : Shape := ⟨2, ![4, 128]⟩
abbrev S512 : Shape := ⟨1, ![512]⟩
abbrev S1536 : Shape := ⟨1, ![1536]⟩
abbrev S1x1536 : Shape := ⟨2, ![1, 1536]⟩
abbrev S1x1024 : Shape := ⟨2, ![1, 1024]⟩
abbrev S32768x1536 : Shape := ⟨2, ![32768, 1536]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩
abbrev S512x1 : Shape := ⟨2, ![512, 1]⟩
abbrev S512x128 : Shape := ⟨2, ![512, 128]⟩

abbrev nBuf : Space → Nat
  | .hbm => 24
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S3x128, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S4x128, .f32⟩
  | .hbm, ⟨8, _⟩ => ⟨S512, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S4x128, .f32⟩
  | .hbm, ⟨13, _⟩ => ⟨S512, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S4x128, .f32⟩
  | .hbm, ⟨18, _⟩ => ⟨S512, .f32⟩
  | .hbm, ⟨19, _⟩ => ⟨S1536, .f32⟩
  | .hbm, ⟨20, _⟩ => ⟨S1x1536, .f32⟩
  | .hbm, ⟨21, _⟩ => ⟨S1024x1536, .bf16⟩
  | .hbm, ⟨22, _⟩ => ⟨S1x1024, .f32⟩
  | .hbm, ⟨23, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32768x1024 : Shape := ⟨2, ![32768, 1024]⟩
abbrev S1024 : Shape := ⟨1, ![1024]⟩
abbrev S1024x1536 : Shape := ⟨2, ![1024, 1536]⟩
abbrev S3x128 : Shape := ⟨2, ![3, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1536 : Shape := ⟨2, ![32768, 1536]⟩
abbrev S32768x3x2x2x128 : Shape := ⟨5, ![32768, 3, 2, 2, 128]⟩
abbrev S32768x3x1x2x128 : Shape := ⟨5, ![32768, 3, 1, 2, 128]⟩
abbrev S3x1x1x128 : Shape := ⟨4, ![3, 1, 1, 128]⟩
abbrev S32768x3x1x2 : Shape := ⟨4, ![32768, 3, 1, 2]⟩
abbrev S32768x3x1x2x1 : Shape := ⟨5, ![32768, 3, 1, 2, 1]⟩
abbrev S1x3x1x1x128 : Shape := ⟨5, ![1, 3, 1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .f32⟩
  | .hbm, ⟨3, _⟩ => ⟨S3x128, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1536, .f32⟩
  | .hbm, ⟨21, _⟩ => ⟨S32768x3x2x2x128, .f32⟩
  | .hbm, ⟨22, _⟩ => ⟨S32768x3x1x2x128, .f32⟩
  | .hbm, ⟨23, _⟩ => ⟨S3x1x1x128, .f32⟩
  | .hbm, ⟨24, _⟩ => ⟨S32768x3x1x2x128, .f32⟩
  | .hbm, ⟨25, _⟩ => ⟨S_, .f32⟩
  | .hbm, ⟨26, _⟩ => ⟨S32768x3x1x2, .f32⟩
  | .hbm, ⟨27, _⟩ => ⟨S32768x3x1x2x1, .f32⟩
  | .hbm, ⟨28, _⟩ => ⟨S_, .f32⟩
  | .hbm, ⟨29, _⟩ => ⟨S32768x3x1x2x1, .f32⟩
  | .hbm, ⟨30, _⟩ => ⟨S32768x3x1x2x1, .f32⟩
  | .hbm, ⟨31, _⟩ => ⟨S_, .f32⟩
  | .hbm, ⟨32, _⟩ => ⟨S32768x3x1x2x1, .f32⟩
  | .hbm, ⟨33, _⟩ => ⟨S32768x3x1x2x1, .f32⟩
  | .hbm, ⟨34, _⟩ => ⟨S32768x3x1x2x1, .f32⟩
  | .hbm, ⟨35, _⟩ => ⟨S32768x3x1x2x128, .f32⟩
  | .hbm, ⟨36, _⟩ => ⟨S32768x3x1x2x128, .f32⟩
  | .hbm, ⟨37, _⟩ => ⟨S1x3x1x1x128, .f32⟩
  | .hbm, ⟨38, _⟩ => ⟨S32768x3x1x2x128, .f32⟩
  | .hbm, ⟨39, _⟩ => ⟨S32768x3x1x2x128, .f32⟩
  | .hbm, ⟨40, _⟩ => ⟨S32768x3x1x2x128, .f32⟩
  | .hbm, ⟨41, _⟩ => ⟨S32768x3x2x2x128, .f32⟩
  | .hbm, ⟨42, _⟩ => ⟨S32768x1536, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel6.lean ====
abbrev S32768x1024 : Shape := ⟨2, ![32768, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S32768x512 : Shape := ⟨2, ![32768, 512]⟩
abbrev S512x1024 : Shape := ⟨2, ![512, 1024]⟩
abbrev S32768x1024 : Shape := ⟨2, ![32768, 1024]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S32768x512, .bf16⟩
  | .hbm, ⟨1, _⟩ => ⟨S512x1024, .f32⟩
  | .hbm, ⟨2, _⟩ => ⟨S32768x1024, .f32⟩
  | .hbm, ⟨3, _⟩ => ⟨S512x1024, .bf16⟩
  | .hbm, ⟨4, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32768x512 : Shape := ⟨2, ![32768, 512]⟩
abbrev S512x1024 : Shape := ⟨2, ![512, 1024]⟩
abbrev S32768x1024 : Shape := ⟨2, ![32768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S512x1024, .f32⟩
  | .hbm, ⟨2, _⟩ => ⟨S32768x1024, .f32⟩
  | .hbm, ⟨3, _⟩ => ⟨S32768x512, .f32⟩
  | .hbm, ⟨4, _⟩ => ⟨S32768x1024, .f32⟩
  | .hbm, ⟨5, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S32768x1024 : Shape := ⟨2, ![32768, 1024]⟩
abbrev S1024 : Shape := ⟨1, ![1024]⟩
abbrev S1024x4112 : Shape := ⟨2, ![1024, 4112]⟩
abbrev S1024x16 : Shape := ⟨2, ![1024, 16]⟩
abbrev S_ : Shape := ⟨0, ![]⟩
abbrev S1024x128 : Shape := ⟨2, ![1024, 128]⟩
abbrev S1x128 : Shape := ⟨2, ![1, 128]⟩
abbrev S1x1024 : Shape := ⟨2, ![1, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4112, .f32⟩
  | .hbm, ⟨3, _⟩ => ⟨S1024x16, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .bf16⟩
  | .hbm, ⟨8, _⟩ => ⟨S_, .f32⟩
  | .hbm, ⟨9, _⟩ => ⟨S1x128, .f32⟩
  | .hbm, ⟨10, _⟩ => ⟨S1x1024, .f32⟩
  | .hbm, ⟨11, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S32768x1024 : Shape := ⟨2, ![32768, 1024]⟩
abbrev S1024 : Shape := ⟨1, ![1024]⟩
abbrev S1024x4112 : Shape := ⟨2, ![1024, 4112]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4112 : Shape := ⟨2, ![32768, 4112]⟩
abbrev S32768x16 : Shape := ⟨2, ![32768, 16]⟩
abbrev S32768x128 : Shape := ⟨2, ![32768, 128]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4112, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4112, .f32⟩
  | .hbm, ⟨20, _⟩ => ⟨S32768x16, .f32⟩
  | .hbm, ⟨21, _⟩ => ⟨S_, .i32⟩
  | .hbm, ⟨22, _⟩ => ⟨S_, .f32⟩
  | .hbm, ⟨23, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel9.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S512x512 : Shape := ⟨2, ![512, 512]⟩
abbrev S1x1024 : Shape := ⟨2, ![1, 1024]⟩
abbrev S32768x128 : Shape := ⟨2, ![32768, 128]⟩
abbrev S8x128 : Shape := ⟨2, ![8, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x32, .f32⟩
  | .hbm, ⟨5, _⟩ => ⟨S32, .f32⟩
  | .hbm, ⟨6, _⟩ => ⟨S1024x36, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S36, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .bf16⟩
  | .hbm, ⟨16, _⟩ => ⟨S512x512, .bf16⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S_, .bf16⟩
  | .hbm, ⟨24, _⟩ => ⟨S512x512, .bf16⟩
  | .hbm, ⟨25, _⟩ => ⟨S512x512, .bf16⟩
  | .hbm, ⟨26, _⟩ => ⟨S1x1024, .f32⟩
  | .hbm, ⟨27, _⟩ => ⟨S32768x1024, .f32⟩
  | .hbm, ⟨28, _⟩ => ⟨S32768x128, .i32⟩
  | .hbm, ⟨29, _⟩ => ⟨S32768x128, .f32⟩
  | .hbm, ⟨30, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x128, .i32⟩
  | .local _ .vmem, ⟨9, _⟩ => ⟨S512x128, .i32⟩
  | .local _ .vmem, ⟨10, _⟩ => ⟨S512x128, .f32⟩
  | .local _ .vmem, ⟨11, _⟩ => ⟨S512x128, .f32⟩
  | .local _ .vmem, ⟨12, _⟩ => ⟨S8x128, .f32⟩
  | .local _ .vmem, ⟨13, _⟩ => ⟨S8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_call2_v0 : Ref sig .tc := ⟨.hbm, 17, rfl⟩
abbrev main_call2_c : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_cst : Ref sig .tc := ⟨.hbm, 23, rfl⟩
abbrev main_call2_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev main_v8_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x32, .f32⟩
  | .hbm, ⟨5, _⟩ => ⟨S32, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.MoeRun.lean ====
module

public import proofs.«01_k».proof.Proof.Gen.KernelIdeal.Launch
public import proofs.«01_k».proof.Proof.Gen.KernelIdeal.Skeleton
public import Idealize.ShloMosaic.Lib.Tactic
public import Idealize.ShloMosaic.Lib.Pipeline.FrameBody
public import Idealize.ShloMosaic.Lib.Pipeline.ReadBack
public import Idealize.ShloMosaic.Lib.Pipeline.ValueKit

/-! # One run of the expert kernel's body

The body of the expert kernel decides twice. Where the expert differs from the one before (and at the first block) it
casts the expert's three weight blocks into its scratch buffers; where the block is valid it multiplies the rows with
what the scratch buffers hold, and where it is not it stores zeros. Here is what one run leaves, for any tables. -/

@[expose] public section

set_option maxRecDepth 16384
set_option Elab.async false

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts and the table of their validity, as the body reads them. -/
abbrev expM : Memref sig .tc .smem S288 .i32 := Memref.whole main_arg1
abbrev valM : Memref sig .tc .smem S288 .i32 := Memref.whole main_arg2

/-- The scratch buffers: the current expert's three weight matrices, cast. -/
abbrev sc0 : Memref sig .tc .vmem S1024x512 .bf16 := Memref.whole cc0_scratch0
abbrev sc1 : Memref sig .tc .vmem S1024x512 .bf16 := Memref.whole cc0_scratch1
abbrev sc2 : Memref sig .tc .vmem S512x1024 .bf16 := Memref.whole cc0_scratch2

/-- The word the body loads from a table at the offsets `o`. -/
abbrev word (M : Memref sig .tc .smem S288 .i32) (c : Dev nD) (T : Buf (Elt F) (M.view.loc (c : Thread nD τ)))
    (o : Fin 1 → Nat) (h : ∀ a, o a + S1.size a ≤ S288.size a) : BitVec 32 :=
  View.readAt (Elt F) M.view (Rect.unit (s := S288) o S1.size h).toLoadRect T (Shape.Idx.first (numel1_S1.symm ▸ Nat.one_pos))

variable (c : Dev nD) (i : grid0.Coords)

/-- The expert changes at this point. -/
abbrev Changed (T0 : Buf (Elt F) (expM.view.loc (c : Thread nD τ))) : Prop :=
  Scalar.cmpi .ne (Scalar.extui (Scalar.ori (Scalar.cmpi .eq (BitVec.ofNat 32 (i 0).val) 0#32)
    (Scalar.cmpi .ne (word expM c T0 (k0_off1 i) (k0_off1_inb i)) (word expM c T0 (k0_off2 i) (k0_off2_inb i))))) 0#32 = 1#1

/-- The block is valid, and it is not. -/
abbrev Valid (T1 : Buf (Elt F) (valM.view.loc (c : Thread nD τ))) : Prop :=
  k0_cond2 (word valM c T1 (k0_off3 i) (k0_off3_inb i)) = 1#1
abbrev Invalid (T1 : Buf (Elt F) (valM.view.loc (c : Thread nD τ))) : Prop :=
  k0_cond3 (word valM c T1 (k0_off4 i) (k0_off4_inb i)) = 1#1

/-- What the scratch buffers hold after the run: the expert's cast weights where it changed, what they held where not. -/
def left0 (T0 : Buf (Elt F) (expM.view.loc (c : Thread nD τ))) (x1 : S1x1024x512.Idx → Elt F .f32)
    (s0 : S1024x512.Idx → Elt F .bf16) : S1024x512.Idx → Elt F .bf16 := by
  classical exact if Changed c i T0 then k0_pay1 x1 else s0
def left1 (T0 : Buf (Elt F) (expM.view.loc (c : Thread nD τ))) (x2 : S1x1024x512.Idx → Elt F .f32)
    (s1 : S1024x512.Idx → Elt F .bf16) : S1024x512.Idx → Elt F .bf16 := by
  classical exact if Changed c i T0 then k0_pay2 x2 else s1
def left2 (T0 : Buf (Elt F) (expM.view.loc (c : Thread nD τ))) (x3 : S1x512x1024.Idx → Elt F .f32)
    (s2 : S512x1024.Idx → Elt F .bf16) : S512x1024.Idx → Elt F .bf16 := by
  classical exact if Changed c i T0 then k0_pay3 x3 else s2

/-- What the output's staging buffer holds after the run, from the rows and what the scratch buffers then hold. -/
def rows (T1 : Buf (Elt F) (valM.view.loc (c : Thread nD τ))) (x0 : S256x1024.Idx → Elt F .f32)
    (w1 w3 : S1024x512.Idx → Elt F .bf16) (w2 : S512x1024.Idx → Elt F .bf16) : S256x1024.Idx → Elt F .f32 := by
  classical exact if Valid c i T1 then k0_pay4 x0 w1 w3 w2 else k0_pay5

set_option maxHeartbeats 8000000 in
/-- ONE RUN of the body, for any tables whose word says valid or invalid: the inputs and the tables come back, the
    scratch buffers hold `left0`, `left1`, `left2` and the output's buffer holds `rows` of them. -/
theorem run (arg3 : Memref sig .tc .vmem S256x1024 .f32) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S256x1024 .f32) (harg7 : arg7.IsWhole)
    (T0 : Buf (Elt F) (expM.view.loc (c : Thread nD τ))) (T1 : Buf (Elt F) (valM.view.loc (c : Thread nD τ)))
    (x0 : S256x1024.Idx → Elt F .f32) (x1 : S1x1024x512.Idx → Elt F .f32) (x2 : S1x1024x512.Idx → Elt F .f32)
    (x3 : S1x512x1024.Idx → Elt F .f32)
    (s0 : Buf (Elt F) (sc0.view.loc (c : Thread nD τ))) (s1 : Buf (Elt F) (sc1.view.loc (c : Thread nD τ)))
    (s2 : Buf (Elt F) (sc2.view.loc (c : Thread nD τ))) (K : PUnit → sProp 𝕄)
    (hne : Valid c i T1 → ¬ Invalid c i T1) (hen : ¬ Valid c i T1 → Invalid c i T1) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (expM.view.loc (c : Thread nD τ) ↦{fullShare.right} T0)
        ∗ (valM.view.loc (c : Thread nD τ) ↦{fullShare.right} T1)
        ∗ (∃ d, owns (c : Thread nD τ) arg7 fullShare d)
        ∗ (sc0.view.loc (c : Thread nD τ) ↦{fullShare} s0)
        ∗ (sc1.view.loc (c : Thread nD τ) ↦{fullShare} s1)
        ∗ (sc2.view.loc (c : Thread nD τ) ↦{fullShare} s2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (expM.view.loc (c : Thread nD τ) ↦{fullShare.right} T0)
            ∗ (valM.view.loc (c : Thread nD τ) ↦{fullShare.right} T1)
            ∗ owns (c : Thread nD τ) arg7 fullShare (rows c i T1 x0 (left0 c i T0 x1 (sc0.view.read (Elt F) s0))
                (left1 c i T0 x2 (sc1.view.read (Elt F) s1)) (left2 c i T0 x3 (sc2.view.read (Elt F) s2)))
            ∗ (∃ f, ⌜sc0.view.read (Elt F) f = left0 c i T0 x1 (sc0.view.read (Elt F) s0)⌝ ∗ (sc0.view.loc (c : Thread nD τ) ↦{fullShare} f))
            ∗ (∃ f, ⌜sc1.view.read (Elt F) f = left1 c i T0 x2 (sc1.view.read (Elt F) s1)⌝ ∗ (sc1.view.loc (c : Thread nD τ) ↦{fullShare} f))
            ∗ (∃ f, ⌜sc2.view.read (Elt F) f = left2 c i T0 x3 (sc2.view.read (Elt F) s2)⌝ ∗ (sc2.view.loc (c : Thread nD τ) ↦{fullShare} f))) -∗ K ⟨⟩))
      ⊢ wp frame (wpE (defs₀ (F := F)) Variants.none c none) Set.univ
          (cc0_moe_mlp i expM (Memref.isWhole_whole _) valM (Memref.isWhole_whole _) arg3 harg3 arg4 harg4 arg5 harg5
            arg6 harg6 arg7 harg7 sc0 (Memref.isWhole_whole _) sc1 (Memref.isWhole_whole _) sc2 (Memref.isWhole_whole _)) K := by
  unfold owns
  rw [cc0_moe_mlp_eq_skeleton]; unfold cc0_moe_mlp_skel
  iintro ⟨H0, H1, H2, H3, HT0, HT1, ⟨%d4, %f4, -, HO4⟩, HS0, HS1, HS2, Hk⟩
  have hS0 : sc0.IsWhole := Memref.isWhole_whole _
  have hS1 : sc1.IsWhole := Memref.isWhole_whole _
  have hS2 : sc2.IsWhole := Memref.isWhole_whole _
  have hT0 : expM.IsWhole := Memref.isWhole_whole _
  have hT1 : valM.IsWhole := Memref.isWhole_whole _
  by_cases hc : Changed c i T0 <;> by_cases hv : Valid c i T1
  all_goals
    have hn := hne
    first | replace hn := hne hv | replace hn := hen hv
    sl_exec! (disch := first
      | (guard_target = Scalar.cmpi = _; exact hc) | (guard_target = ¬(Scalar.cmpi = _); exact hc)
      | (guard_target = k0_cond2 _ = _; exact hv) | (guard_target = ¬(k0_cond2 _ = _); exact hv)
      | (guard_target = k0_cond3 _ = _; exact hn) | (guard_target = ¬(k0_cond3 _ = _); exact hn))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro; unfold rows left0 left1 left2
        (first | rw [if_pos hv] | rw [if_neg hv])
        (try (first | rw [if_pos hc, if_pos hc, if_pos hc] | rw [if_neg hc, if_neg hc, if_neg hc]))
        frame_out
        (try simp only [View.read_rep])
    isplitl [HS0]
    · iexists _; isplitr; swap
      · iexact HS0
      · ipureintro; unfold left0; first | rw [if_neg hc] | (rw [if_pos hc]; frame_out; simp only [View.read_rep])
    isplitl [HS1]
    · iexists _; isplitr; swap
      · iexact HS1
      · ipureintro; unfold left1; first | rw [if_neg hc] | (rw [if_pos hc]; frame_out; simp only [View.read_rep])
    iexists _; isplitr; swap
    · iexact HS2
    · ipureintro; unfold left2; first | rw [if_neg hc] | (rw [if_pos hc]; frame_out; simp only [View.read_rep])

end Cert.Moe

end
-- ==== Proof.MoeTables.lean ====
module

public import proofs.«01_k».proof.Proof.MoeRun

/-! # The expert kernel's tables

Two integer tables steer the expert kernel: which expert each block of rows goes to and whether the block is valid. Here
are the words the body and the index maps read of them at a grid point, the range the tables have to keep, and the
fetched blocks that follow from it. -/

@[expose] public section

set_option maxRecDepth 16384
set_option Elab.async false

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open Idealize.SL.Sem

variable {F : FTy → Type} [FloatOps F]

/-- Position `n` of a table. -/
def pos (n : Fin 288) : S288.Idx := fun a => ⟨n.val, by fin_cases a; exact n.isLt⟩

variable (m : (ℓ : Loc nD τ sig) → Buf (Elt F) ℓ)

/-- The tables at launch: the blocks' experts, the blocks' validity, and both as the pipeline takes them. -/
abbrev expT : S288.Idx → BitVec 32 := m (((0 : Dev nD) : Thread nD τ).loc main_arg1)
abbrev valT : S288.Idx → BitVec 32 := m (((0 : Dev nD) : Thread nD τ).loc main_arg2)
def tables : pre0.Contents (Elt F) := fun j => m (((0 : Dev nD) : Thread nD τ).loc (pre0.ref j))

/-- What the kernel asks of its tables: every expert is one of the 32, every block is marked valid or not. -/
def InRange : Prop := (∀ j, (expT m j).toNat < 32) ∧ ∀ j, valT m j = 0#32 ∨ valT m j = 1#32

/-! ## The words read -/

theorem crd_val : ∀ t : Fin grid0.N, (grid0.coords t 0).val = t.val := by decide +kernel

theorem unit_first (o : Fin 1 → Nat) (hb : ∀ a, o a + S1.size a ≤ S288.size a) (n : Fin 288) (ho : o 0 = n.val) (e : S1.numel = 1) :
    (Rect.unit (s := S288) o S1.size hb).emb (Shape.Idx.first (e.symm ▸ Nat.one_pos)) = pos n := by
  funext a
  apply Fin.ext
  rw [Rect.emb_apply]
  fin_cases a
  show o 0 + 1 * 0 = n.val
  omega

theorem word_eq (M : Memref sig .tc .smem S288 .i32) (c : Dev nD) (T : Buf (Elt F) (M.view.loc (c : Thread nD τ)))
    (o : Fin 1 → Nat) (hb : ∀ a, o a + S1.size a ≤ S288.size a) (n : Fin 288) (ho : o 0 = n.val) :
    word M c T o hb = M.view.read (Elt F) T (pos n) := by
  unfold word
  rw [View.readAt_eq_ld]
  exact congrArg (M.view.read (Elt F) T) (unit_first o hb n ho numel1_S1)

theorem off2 : ∀ t : Fin grid0.N, k0_off2 (grid0.coords t) 0 = t.val - 1 := by decide +kernel

/-- The condition on words: it fails only off the first point and between equal words. -/
theorem same_words (a w v : BitVec 32)
    (h : ¬ Scalar.cmpi .ne (Scalar.extui (Scalar.ori (Scalar.cmpi .eq a 0#32) (Scalar.cmpi .ne w v)) : BitVec 32) 0#32 = 1#1) :
    a ≠ 0#32 ∧ w = v := by
  constructor
  · rintro rfl
    apply h
    generalize Scalar.cmpi .ne w v = b
    revert b; decide
  · by_contra hne
    apply h
    have e : Scalar.cmpi .ne w v = 1#1 := by
      show BitVec.ofBool (w != v) = 1#1
      rw [bne_iff_ne.2 hne]; rfl
    rw [e]
    generalize Scalar.cmpi .eq a 0#32 = b
    revert b; decide

variable (c : Dev nD) (t : Fin grid0.N)

/-- Where the expert is the one before, the point is not the first and its table word is that of the point before. -/
theorem same_of_not_changed (h : ¬ Changed (F := F) c (grid0.coords t) (expT m)) :
    t.val ≠ 0 ∧ expT m (pos t) = expT m (pos ⟨t.val - 1, Nat.lt_of_le_of_lt (Nat.sub_le _ _) t.isLt⟩) := by
  unfold Changed at h
  rw [word_eq expM c _ _ _ t (by rw [k0_off1_eq]; exact crd_val t),
    word_eq expM c _ _ _ ⟨t.val - 1, Nat.lt_of_le_of_lt (Nat.sub_le _ _) t.isLt⟩ (off2 t)] at h
  obtain ⟨h0, e⟩ := same_words _ _ _ h
  refine ⟨fun ht => h0 ?_, e⟩
  rw [crd_val, ht]

theorem valid_iff (h : InRange m) : Valid (F := F) c (grid0.coords t) (valT m) ↔ valT m (pos t) = 1#32 := by
  unfold Valid
  rw [word_eq valM c _ _ _ t (by rw [k0_off3_eq]; exact crd_val t)]
  change k0_cond2 (valT m (pos t)) = 1#1 ↔ _
  rcases h.2 (pos t) with e | e <;> rw [e] <;> decide

theorem invalid_iff (h : InRange m) : Invalid (F := F) c (grid0.coords t) (valT m) ↔ valT m (pos t) = 0#32 := by
  unfold Invalid
  rw [word_eq valM c _ _ _ t (by rw [k0_off4_eq]; exact crd_val t)]
  change k0_cond3 (valT m (pos t)) = 1#1 ↔ _
  rcases h.2 (pos t) with e | e <;> rw [e] <;> decide

theorem not_invalid (h : InRange m) (hv : Valid (F := F) c (grid0.coords t) (valT m)) : ¬ Invalid (F := F) c (grid0.coords t) (valT m) := by
  rw [invalid_iff m c t h]; rw [valid_iff m c t h] at hv; rw [hv]; decide
theorem invalid_of_not (h : InRange m) (hv : ¬ Valid (F := F) c (grid0.coords t) (valT m)) : Invalid (F := F) c (grid0.coords t) (valT m) := by
  rw [invalid_iff m c t h]; rw [valid_iff m c t h] at hv; exact (h.2 _).resolve_right hv

/-! ## The index maps -/

theorem first_exp (i : grid0.Coords) :
    (tables m).at 0 (Rect.unit (s := S288) (k0_off1 i) S1.size (k0_off1_inb i)) numel1_S1 = expT m (pos (i 0)) :=
  congrArg (expT m) (unit_first _ _ (i 0) (congrFun (k0_off1_eq i) 0) numel1_S1)
theorem first_val (i : grid0.Coords) :
    (tables m).at 1 (Rect.unit (s := S288) (k0_off1 i) S1.size (k0_off1_inb i)) numel1_S1 = valT m (pos (i 0)) :=
  congrArg (valT m) (unit_first _ _ (i 0) (congrFun (k0_off1_eq i) 0) numel1_S1)

/-- The weights fetched are those of the block's expert. -/
theorem ix_weights1 (i : grid0.Coords) : cc0_transform_1 k0_off1_inb numel1_S1 (tables m) i = ![(expT m (pos (i 0))).toNat, 0, 0] :=
  congrArg (fun w : BitVec 32 => ![w.toNat, 0, 0]) (first_exp m i)
theorem ix_weights2 (i : grid0.Coords) : cc0_transform_2 k0_off1_inb numel1_S1 (tables m) i = ![(expT m (pos (i 0))).toNat, 0, 0] :=
  congrArg (fun w : BitVec 32 => ![w.toNat, 0, 0]) (first_exp m i)
theorem ix_weights3 (i : grid0.Coords) : cc0_transform_3 k0_off1_inb numel1_S1 (tables m) i = ![(expT m (pos (i 0))).toNat, 0, 0] :=
  congrArg (fun w : BitVec 32 => ![w.toNat, 0, 0]) (first_exp m i)

/-- The rows fetched are the block's own where it is valid, and those of the first block where it is not. -/
theorem ix_rows (h : InRange m) (i : grid0.Coords) : cc0_transform_0 k0_off1_inb numel1_S1 (tables m) i
    = ![(i 0).val * (valT m (pos (i 0))).toNat, 0] := by
  refine (congrArg (fun w : BitVec 32 => ![(Scalar.muli (BitVec.ofNat 32 (i 0).val) w).toNat, 0]) (first_val m i)).trans ?_
  have hi : (i 0).val < 288 := (i 0).isLt
  rcases h.2 (pos (i 0)) with e | e <;> rw [e]
  · simp [Scalar.muli, IntOp.muli]
  · simp [Scalar.muli, IntOp.muli]; omega

/-- Tables in range steer every fetch to a block inside its array. -/
theorem ok (h : InRange m) : ok0 (F := F) (tables m) := by
  have w : ∀ i : grid0.Coords, (expT m (pos (i 0))).toNat < 32 := fun i => h.1 _
  have v : ∀ i : grid0.Coords, (i 0).val * (valT m (pos (i 0))).toNat < 288 := fun i => by
    have hi : (i 0).val < 288 := (i 0).isLt
    rcases h.2 (pos (i 0)) with e | e <;> rw [e] <;> simp <;> omega
  refine ⟨fun i => ⟨?_, .inl rfl⟩, fun i => ⟨?_, .inl rfl⟩, fun i => ⟨?_, .inl rfl⟩, fun i => ⟨?_, .inl rfl⟩⟩
  · rw [ix_rows m h i]; intro a
    have := v i
    fin_cases a
    · exact Nat.mul_le_mul_right 256 (show _ + 1 ≤ 288 from this)
    · show (0 + 1) * 1024 ≤ 1024; omega
  · rw [ix_weights1 m i]; intro a
    have := w i
    fin_cases a
    · exact Nat.mul_le_mul_right 1 (show _ + 1 ≤ 32 from this)
    · show (0 + 1) * 1024 ≤ 1024; omega
    · show (0 + 1) * 512 ≤ 512; omega
  · rw [ix_weights2 m i]; intro a
    have := w i
    fin_cases a
    · exact Nat.mul_le_mul_right 1 (show _ + 1 ≤ 32 from this)
    · show (0 + 1) * 1024 ≤ 1024; omega
    · show (0 + 1) * 512 ≤ 512; omega
  · rw [ix_weights3 m i]; intro a
    have := w i
    fin_cases a
    · exact Nat.mul_le_mul_right 1 (show _ + 1 ≤ 32 from this)
    · show (0 + 1) * 512 ≤ 512; omega
    · show (0 + 1) * 1024 ≤ 1024; omega

/-- The tables as admissible contents of the pipeline, and the pipeline at them. -/
def adm (h : InRange m) : (pcfg0 (F := F)).Adm := ⟨tables m, ok m h⟩
abbrev cfgT (h : InRange m) : Pipeline.Cfg sig Λ₀ := cfg0 (F := F) (adm m h)

theorem atD_val (o : Fin 1 → Nat) (n : Fin 288) (ho : o 0 = n.val) : (tables m).atD 1 o = valT m (pos n) := by
  have hb : ∀ a : Fin 1, o a + 1 ≤ S288.size a := fun a => by fin_cases a; show o 0 + 1 ≤ 288; have := n.isLt; omega
  refine (dif_pos hb).trans (congrArg (valT m) ?_)
  funext a; apply Fin.ext; fin_cases a; exact ho

/-- No point leaves the output's buffer as it found it. -/
theorem idle_out (h : InRange m) (t : Fin (cfgT m h).N) : (cfgT m h).idle (4 : Fin 5) ((cfgT m h).grid.coords t) = false := by
  show (!(k0_cond2 ((tables m).atD 1 (k0_off3 (grid0.coords t))) == 1#1) && !(k0_cond3 ((tables m).atD 1 (k0_off4 (grid0.coords t))) == 1#1)) = false
  rw [atD_val m _ t (by rw [k0_off3_eq]; exact crd_val t), atD_val m _ t (by rw [k0_off4_eq]; exact crd_val t)]
  rcases h.2 (pos t) with e | e <;> rw [e] <;> decide

/-! ## The fetched blocks -/

/-- Window `w`'s block at point `t`, read off its array at launch. -/
def blkT (h : InRange m) (c : Dev nD) (w : Fin (cfgT m h).W) (t : Fin (cfgT m h).N) :
    (((cfgT m h).win w).xblock ((cfgT m h).grid.coords t)).Idx → Elt F ((cfgT m h).win w).elt :=
  (((cfgT m h).win w).blk t).view.read (Elt F) (m (((cfgT m h).win w).arr.view.loc (c : Thread nD τ)))

/-- The index of an expert's weight under an index of its block. -/
def inW1 (e : Fin 32) (y : S1x1024x512.Idx) : S32x1024x512.Idx :=
  fun a => ⟨![e.val, (y 1).val, (y 2).val] a, by fin_cases a; exacts [e.isLt, (y 1).isLt, (y 2).isLt]⟩
def inW2 (e : Fin 32) (y : S1x512x1024.Idx) : S32x512x1024.Idx :=
  fun a => ⟨![e.val, (y 1).val, (y 2).val] a, by fin_cases a; exacts [e.isLt, (y 1).isLt, (y 2).isLt]⟩

theorem pos_crd (t : Fin grid0.N) : pos (grid0.coords t 0) = pos t := congrArg pos (Fin.ext (crd_val t))

theorem blk1 (h : InRange m) (t : Fin (cfgT m h).N) (y : S1x1024x512.Idx) :
    blkT m h c (1 : Fin 5) t y = m ((c : Thread nD τ).loc main_arg3) (inW1 ⟨(expT m (pos t)).toNat, h.1 _⟩ y) := by
  refine congrArg (m ((c : Thread nD τ).loc main_arg3)) (funext fun a => Fin.ext ?_)
  show cc0_transform_1 k0_off1_inb numel1_S1 (tables m) (grid0.coords t) a * S1x1024x512.size a + 1 * (y a).val = ![(expT m (pos t)).toNat, (y 1).val, (y 2).val] a
  rw [ix_weights1, pos_crd]
  have h0 : (y 0).val < 1 := (y 0).isLt
  fin_cases a
  · show (expT m (pos t)).toNat * 1 + 1 * (y 0).val = (expT m (pos t)).toNat; omega
  · show 0 * 1024 + 1 * (y 1).val = (y 1).val; omega
  · show 0 * 512 + 1 * (y 2).val = (y 2).val; omega

theorem blk2 (h : InRange m) (t : Fin (cfgT m h).N) (y : S1x1024x512.Idx) :
    blkT m h c (2 : Fin 5) t y = m ((c : Thread nD τ).loc main_arg4) (inW1 ⟨(expT m (pos t)).toNat, h.1 _⟩ y) := by
  refine congrArg (m ((c : Thread nD τ).loc main_arg4)) (funext fun a => Fin.ext ?_)
  show cc0_transform_2 k0_off1_inb numel1_S1 (tables m) (grid0.coords t) a * S1x1024x512.size a + 1 * (y a).val = ![(expT m (pos t)).toNat, (y 1).val, (y 2).val] a
  rw [ix_weights2, pos_crd]
  have h0 : (y 0).val < 1 := (y 0).isLt
  fin_cases a
  · show (expT m (pos t)).toNat * 1 + 1 * (y 0).val = (expT m (pos t)).toNat; omega
  · show 0 * 1024 + 1 * (y 1).val = (y 1).val; omega
  · show 0 * 512 + 1 * (y 2).val = (y 2).val; omega

theorem blk3 (h : InRange m) (t : Fin (cfgT m h).N) (y : S1x512x1024.Idx) :
    blkT m h c (3 : Fin 5) t y = m ((c : Thread nD τ).loc main_arg5) (inW2 ⟨(expT m (pos t)).toNat, h.1 _⟩ y) := by
  refine congrArg (m ((c : Thread nD τ).loc main_arg5)) (funext fun a => Fin.ext ?_)
  show cc0_transform_3 k0_off1_inb numel1_S1 (tables m) (grid0.coords t) a * S1x512x1024.size a + 1 * (y a).val = ![(expT m (pos t)).toNat, (y 1).val, (y 2).val] a
  rw [ix_weights3, pos_crd]
  have h0 : (y 0).val < 1 := (y 0).isLt
  fin_cases a
  · show (expT m (pos t)).toNat * 1 + 1 * (y 0).val = (expT m (pos t)).toNat; omega
  · show 0 * 512 + 1 * (y 1).val = (y 1).val; omega
  · show 0 * 1024 + 1 * (y 2).val = (y 2).val; omega

/-- The place in the array of rows of an index of block `n`. -/
def inX (n : Fin 288) (y : S256x1024.Idx) : S73728x1024.Idx :=
  fun a => ⟨![n.val * 256 + (y 0).val, (y 1).val] a, by
    have h0 : (y 0).val < 256 := (y 0).isLt
    have h1 : (y 1).val < 1024 := (y 1).isLt
    have hn := n.isLt
    fin_cases a
    · show n.val * 256 + (y 0).val < 73728; omega
    · show (y 1).val < 1024; omega⟩

/-- The rows fetched for a valid block are the block's. -/
theorem blk0 (h : InRange m) (t : Fin (cfgT m h).N) (hv : valT m (pos t) = 1#32) (y : S256x1024.Idx) :
    blkT m h c (0 : Fin 5) t y = m ((c : Thread nD τ).loc main_arg0) (inX t y) := by
  refine congrArg (m ((c : Thread nD τ).loc main_arg0)) (funext fun a => Fin.ext ?_)
  show cc0_transform_0 k0_off1_inb numel1_S1 (tables m) (grid0.coords t) a * S256x1024.size a + 1 * (y a).val = ![t.val * 256 + (y 0).val, (y 1).val] a
  rw [ix_rows m h, pos_crd, hv, crd_val]
  fin_cases a
  · show t.val * (1#32 : BitVec 32).toNat * 256 + 1 * (y 0).val = t.val * 256 + (y 0).val
    rw [show (1#32 : BitVec 32).toNat = 1 from rfl]; omega
  · show 0 * 1024 + 1 * (y 1).val = (y 1).val; omega

/-- Where the expert is the one before, so are the fetched weights. -/
theorem blk_same (h : InRange m) (t t' : Fin (cfgT m h).N) (e : expT m (pos t) = expT m (pos t')) :
    blkT m h c (1 : Fin 5) t = blkT m h c (1 : Fin 5) t' ∧ blkT m h c (2 : Fin 5) t = blkT m h c (2 : Fin 5) t'
      ∧ blkT m h c (3 : Fin 5) t = blkT m h c (3 : Fin 5) t' := by
  refine ⟨funext fun y => ?_, funext fun y => ?_, funext fun y => ?_⟩
  · exact (blk1 m c h t y).trans ((congrArg (fun w => m ((c : Thread nD τ).loc main_arg3) (inW1 w y)) (Fin.ext (congrArg BitVec.toNat e))).trans (blk1 m c h t' y).symm)
  · exact (blk2 m c h t y).trans ((congrArg (fun w => m ((c : Thread nD τ).loc main_arg4) (inW1 w y)) (Fin.ext (congrArg BitVec.toNat e))).trans (blk2 m c h t' y).symm)
  · exact (blk3 m c h t y).trans ((congrArg (fun w => m ((c : Thread nD τ).loc main_arg5) (inW2 w y)) (Fin.ext (congrArg BitVec.toNat e))).trans (blk3 m c h t' y).symm)

end Cert.Moe

end
-- ==== Proof.MoeFrame.lean ====
module

public import proofs.«01_k».proof.Proof.MoeTables
public import Idealize.ShloMosaic.Lib.Pipeline.TableIdle

/-! # The expert kernel's run

From any launch memory whose tables are in range the expert kernel terminates, leaves its arguments as they were and its
result array at what its blocks say. Between two points the scratch buffers hold the cast weights of the last block's
expert: a point whose expert is the one before does not cast again, and need not. -/

@[expose] public section

set_option maxRecDepth 16384
set_option Elab.async false

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : InRange m) (c : Dev nD)

/-- What a point leaves in the output's buffer. -/
def outT (t : Fin (cfgT m h).N) : S256x1024.Idx → Elt F .f32 :=
  rows c (grid0.coords t) (valT m) (blkT m h c (0 : Fin 5) t) (k0_pay1 (blkT m h c (1 : Fin 5) t))
    (k0_pay2 (blkT m h c (2 : Fin 5) t)) (k0_pay3 (blkT m h c (3 : Fin 5) t))

/-- Before position `t`: each scratch buffer holds the cast weights of the point before (anything before the first), and
    the body has its half of the tables. -/
def Inv (t : Fin ((cfgT m h).N + 1)) : sProp 𝕄 :=
  iprop((∃ a, ⌜∀ p : Fin (cfgT m h).N, p.val + 1 = t.val → sc0.view.read (Elt F) a = k0_pay1 (blkT m h c (1 : Fin 5) p)⌝ ∗ (sc0.view.loc (c : Thread nD τ) ↦{fullShare} a))
    ∗ (∃ a, ⌜∀ p : Fin (cfgT m h).N, p.val + 1 = t.val → sc1.view.read (Elt F) a = k0_pay2 (blkT m h c (2 : Fin 5) p)⌝ ∗ (sc1.view.loc (c : Thread nD τ) ↦{fullShare} a))
    ∗ (∃ a, ⌜∀ p : Fin (cfgT m h).N, p.val + 1 = t.val → sc2.view.read (Elt F) a = k0_pay3 (blkT m h c (3 : Fin 5) p)⌝ ∗ (sc2.view.loc (c : Thread nD τ) ↦{fullShare} a))
    ∗ (expM.view.loc (c : Thread nD τ) ↦{fullShare.right} expT m) ∗ (valM.view.loc (c : Thread nD τ) ↦{fullShare.right} valT m))

/-- The proof data of the pipeline on core `c`. -/
def dat (_ : Fin 1) (c : Dev nD) : Dat τ (Elt F) Unit ℕ (UR sig nD τ) ℕ (cfgT m h) c where
  A w := m (((cfgT m h).win w).arr.view.loc (c : Thread nD τ))
  after w t := match w with
    | ⟨0, _⟩ => blkT m h c (0 : Fin 5) t
    | ⟨1, _⟩ => blkT m h c (1 : Fin 5) t
    | ⟨2, _⟩ => blkT m h c (2 : Fin 5) t
    | ⟨3, _⟩ => blkT m h c (3 : Fin 5) t
    | ⟨4, _⟩ => outT m h c t
  Φ t := Inv m h c t
  q _ := fullShare
  owed _ := 0

/-- An input's staging buffer holds its block when the body runs. -/
theorem found0 (t : Fin (cfgT m h).N) (d) : (dat m h 0 c).before (0 : Fin 5) t d = blkT m h c (0 : Fin 5) t :=
  ((dat m h 0 c).before_in_eq_fetched (0 : Fin 5) rfl (fun _ => rfl) (fun _ _ _ => rfl) (fun t => rfl) t d).trans rfl
theorem found1 (t : Fin (cfgT m h).N) (d) : (dat m h 0 c).before (1 : Fin 5) t d = blkT m h c (1 : Fin 5) t :=
  ((dat m h 0 c).before_in_eq_fetched (1 : Fin 5) rfl (fun _ => rfl) (fun _ _ _ => rfl) (fun t => rfl) t d).trans rfl
theorem found2 (t : Fin (cfgT m h).N) (d) : (dat m h 0 c).before (2 : Fin 5) t d = blkT m h c (2 : Fin 5) t :=
  ((dat m h 0 c).before_in_eq_fetched (2 : Fin 5) rfl (fun _ => rfl) (fun _ _ _ => rfl) (fun t => rfl) t d).trans rfl
theorem found3 (t : Fin (cfgT m h).N) (d) : (dat m h 0 c).before (3 : Fin 5) t d = blkT m h c (3 : Fin 5) t :=
  ((dat m h 0 c).before_in_eq_fetched (3 : Fin 5) rfl (fun _ => rfl) (fun _ _ _ => rfl) (fun t => rfl) t d).trans rfl

/-- The scratch buffers hold the block's own expert after its point, cast there or not. -/
theorem left_eq (t : Fin (cfgT m h).N) (s0 s1 : S1024x512.Idx → Elt F .bf16) (s2 : S512x1024.Idx → Elt F .bf16)
    (h0 : ∀ p : Fin (cfgT m h).N, p.val + 1 = t.val → s0 = k0_pay1 (blkT m h c (1 : Fin 5) p))
    (h1 : ∀ p : Fin (cfgT m h).N, p.val + 1 = t.val → s1 = k0_pay2 (blkT m h c (2 : Fin 5) p))
    (h2 : ∀ p : Fin (cfgT m h).N, p.val + 1 = t.val → s2 = k0_pay3 (blkT m h c (3 : Fin 5) p)) :
    left0 c (grid0.coords t) (expT m) (blkT m h c (1 : Fin 5) t) s0 = k0_pay1 (blkT m h c (1 : Fin 5) t)
      ∧ left1 c (grid0.coords t) (expT m) (blkT m h c (2 : Fin 5) t) s1 = k0_pay2 (blkT m h c (2 : Fin 5) t)
      ∧ left2 c (grid0.coords t) (expT m) (blkT m h c (3 : Fin 5) t) s2 = k0_pay3 (blkT m h c (3 : Fin 5) t) := by
  unfold left0 left1 left2
  by_cases hc : Changed (F := F) c (grid0.coords t) (expT m)
  · rw [if_pos hc, if_pos hc, if_pos hc]; exact ⟨rfl, rfl, rfl⟩
  · rw [if_neg hc, if_neg hc, if_neg hc]
    obtain ⟨ht, e⟩ := same_of_not_changed m c t hc
    have hp : (⟨t.val - 1, Nat.lt_of_le_of_lt (Nat.sub_le _ _) t.isLt⟩ : Fin (cfgT m h).N).val + 1 = t.val := by
      show t.val - 1 + 1 = t.val; omega
    obtain ⟨e1, e2, e3⟩ := blk_same m c h t _ e
    rw [h0 _ hp, h1 _ hp, h2 _ hp, e1, e2, e3]
    exact ⟨rfl, rfl, rfl⟩

/-- The staging memrefs at a point. -/
abbrev st0 (t : Fin (cfgT m h).N) : Memref sig .tc .vmem S256x1024 .f32 := spec0_0.stage ((cfgT m h).slots t (0 : Fin 5))
abbrev st1 (t : Fin (cfgT m h).N) : Memref sig .tc .vmem S1x1024x512 .f32 := spec0_1.stage ((cfgT m h).slots t (1 : Fin 5))
abbrev st2 (t : Fin (cfgT m h).N) : Memref sig .tc .vmem S1x1024x512 .f32 := spec0_2.stage ((cfgT m h).slots t (2 : Fin 5))
abbrev st3 (t : Fin (cfgT m h).N) : Memref sig .tc .vmem S1x512x1024 .f32 := spec0_3.stage ((cfgT m h).slots t (3 : Fin 5))
abbrev st4 (t : Fin (cfgT m h).N) : Memref sig .tc .vmem S256x1024 .f32 := spec0_4.stage ((cfgT m h).slots t (4 : Fin 5))

/-- The body at a point, on its staging memrefs. -/
abbrev bodyT (t : Fin (cfgT m h).N) : Prog (TpuEff nD τ sig (Elt F) Λ₀ .tc) PUnit :=
  cc0_moe_mlp (grid0.coords t) expM (Memref.isWhole_whole _) valM (Memref.isWhole_whole _)
    (st0 m h t) (hstage0_0 (((cfgT m h).slots t (0 : Fin 5)).cast nbuf0_0)) (st1 m h t) (hstage0_1 (((cfgT m h).slots t (1 : Fin 5)).cast nbuf0_1))
    (st2 m h t) (hstage0_2 (((cfgT m h).slots t (2 : Fin 5)).cast nbuf0_2)) (st3 m h t) (hstage0_3 (((cfgT m h).slots t (3 : Fin 5)).cast nbuf0_3))
    (st4 m h t) (hstage0_4 (((cfgT m h).slots t (4 : Fin 5)).cast nbuf0_4))
    sc0 (Memref.isWhole_whole _) sc1 (Memref.isWhole_whole _) sc2 (Memref.isWhole_whole _)

set_option maxHeartbeats 4000000 in
/-- The body keeps the invariant and leaves every staging buffer as the proof data say. -/
theorem body_at (t : Fin (cfgT m h).N) :
    iprop(Inv m h c t.castSucc ∗ (dat m h 0 c).owesAt () t.castSucc
        ∗ (∃ d, owns (c : Thread nD τ) (st0 m h t) fullShare ((dat m h 0 c).before (0 : Fin 5) t d))
        ∗ (∃ d, owns (c : Thread nD τ) (st1 m h t) fullShare ((dat m h 0 c).before (1 : Fin 5) t d))
        ∗ (∃ d, owns (c : Thread nD τ) (st2 m h t) fullShare ((dat m h 0 c).before (2 : Fin 5) t d))
        ∗ (∃ d, owns (c : Thread nD τ) (st3 m h t) fullShare ((dat m h 0 c).before (3 : Fin 5) t d))
        ∗ (∃ d, owns (c : Thread nD τ) (st4 m h t) fullShare ((dat m h 0 c).before (4 : Fin 5) t d)))
      ⊢ wp frame (wpE (defs₀ (F := F)) Variants.none c none) Set.univ (bodyT m h t) fun _ =>
          iprop(Inv m h c t.succ ∗ (dat m h 0 c).owesAt () t.castSucc
            ∗ owns (c : Thread nD τ) (st0 m h t) fullShare (blkT m h c (0 : Fin 5) t)
            ∗ owns (c : Thread nD τ) (st1 m h t) fullShare (blkT m h c (1 : Fin 5) t)
            ∗ owns (c : Thread nD τ) (st2 m h t) fullShare (blkT m h c (2 : Fin 5) t)
            ∗ owns (c : Thread nD τ) (st3 m h t) fullShare (blkT m h c (3 : Fin 5) t)
            ∗ owns (c : Thread nD τ) (st4 m h t) fullShare (outT m h c t)) := by
  simp only [found0, found1, found2, found3]
  unfold Inv
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  obtain ⟨e0, e1, e2⟩ := left_eq m h c t _ _ _ ha0 ha1 ha2
  iapply (run c (grid0.coords t) (st0 m h t) _ (st1 m h t) _ (st2 m h t) _ (st3 m h t) _ (st4 m h t) _ (expT m) (valT m)
    (blkT m h c (0 : Fin 5) t) (blkT m h c (1 : Fin 5) t) (blkT m h c (2 : Fin 5) t) (blkT m h c (3 : Fin 5) t) a0 a1 a2 _
    (not_invalid m c t h) (invalid_of_not m c t h))
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  rw [e0, e1, e2]
  iintro ⟨H0, H1, H2, H3, HT0, HT1, H4, ⟨%b0, %hb0, HS0⟩, ⟨%b1, %hb1, HS1⟩, ⟨%b2, %hb2, HS2⟩⟩
  isplitl [HS0 HS1 HS2 HT0 HT1]
  · isplitl [HS0]
    · iexists b0; isplitr; swap
      · iexact HS0
      · ipureintro; intro p hp
        obtain rfl : p = t := Fin.ext (Nat.succ.inj hp)
        exact hb0
    isplitl [HS1]
    · iexists b1; isplitr; swap
      · iexact HS1
      · ipureintro; intro p hp
        obtain rfl : p = t := Fin.ext (Nat.succ.inj hp)
        exact hb1
    isplitl [HS2]
    · iexists b2; isplitr; swap
      · iexact HS2
      · ipureintro; intro p hp
        obtain rfl : p = t := Fin.ext (Nat.succ.inj hp)
        exact hb2
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-- The body obligation at every point. -/
theorem body_all : BodyObligation (dat m h 0 c) (defs₀ (F := F)) Variants.none () Set.univ := fun t => by
  rw [bigSep_W0, bigSep_W0]
  rewrite [idle_out m h t]
  exact body_at m h c t

/-! ## The launch -/

/-- The one pipeline, at the tables. -/
abbrev pinned : Fin 1 → Pipeline.Cfg sig Λ₀ := Pipeline.pin (pcfgs (F := F)) fun _ => adm m h

/-- The launch's element of the resource algebra. -/
def seed : UR sig nD τ :=
  initOf (Pipeline.cells (pinned m h) ((launch0 (F := F)).cellOf_inj fun _ => adm m h))
    (Pipeline.launchToks (pinned m h) ((launch0 (F := F)).cellOf_inj fun _ => adm m h))

theorem share_full (w : Fin (cfgT m h).W) : (dat m h 0 c).share w = fullShare := by unfold Dat.share; split <;> rfl

/-- The tables as the launch hands them over. -/
theorem held_eq (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- The invariant before the first point, from the tables and the scratch buffers at anything. -/
theorem inv_first : iprop(BI.emp ∗ Pipeline.prefHeld pre0 c (fun _ => fullShare.right) (adm m h).1 ∗ Pipeline.scopedRest spec0 c)
    ⊢ (dat m h 0 c).Φ 0 := by
  rw [held_eq, scopedRest0_eq, show (dat m h 0 c).Φ 0 = Inv m h c 0 from rfl]
  unfold Inv
  iintro ⟨-, ⟨HT0, HT1⟩, ⟨%a0, HS0⟩, ⟨%a1, HS1⟩, ⟨%a2, HS2⟩⟩
  isplitl [HS0]
  · iexists a0; isplitr; swap
    · iexact HS0
    · ipureintro; intro p hp; exact absurd hp (Nat.succ_ne_zero _)
  isplitl [HS1]
  · iexists a1; isplitr; swap
    · iexact HS1
    · ipureintro; intro p hp; exact absurd hp (Nat.succ_ne_zero _)
  isplitl [HS2]
  · iexists a2; isplitr; swap
    · iexact HS2
    · ipureintro; intro p hp; exact absurd hp (Nat.succ_ne_zero _)
  isplitl [HT0]
  · iexact HT0
  iexact HT1

/-- After the last point it gives the scratch buffers back. -/
theorem inv_last : (dat m h 0 c).Φ (Fin.last (cfgT m h).N) ⊢ iprop(BI.emp ∗ Pipeline.scopedRest spec0 c) := by
  rw [scopedRest0_eq, show (dat m h 0 c).Φ (Fin.last (cfgT m h).N) = Inv m h c (Fin.last _) from rfl]
  unfold Inv
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array ends at what the blocks say and every table as it was. -/
def Ends : PUnit × MemSt nD τ sig (Elt F) → Prop := fun r =>
  ∀ c : Dev nD, (∀ w : Fin (cfgT m h).W, r.2.mem (((cfgT m h).win w).arr.view.loc (c : Thread nD τ)) = (dat m h 0 c).arrAt w (cfgT m h).N)
    ∧ ∀ j, r.2.mem ((c : Thread nD τ).loc (pre0.ref j)) = (adm m h).1 j

theorem tables_at (c : Dev nD) (j : Fin 2) : m ((c : Thread nD τ).loc (pre0.ref j)) = (adm m h).1 j := by
  obtain rfl : c = 0 := Subsingleton.elim _ _
  rfl

set_option backward.isDefEq.respectTransparency.types false in
set_option maxHeartbeats 4000000 in
/-- The run: it terminates, every array ends at what the blocks say, every semaphore counter at zero. -/
theorem run_all (ρ : Dev nD → PrngReg) : θ_run (defs (F := F)) (onTc (τ := τ) (main (F := F))) ⟨m, fun _ => 0, ρ⟩
    (fun r => Ends m h r ∧ r.2.sem = fun _ => 0) :=
  Pipeline.θ_run_region_noSem_pf_quiescent pcfgs (fun _ => adm m h) (dat m h) () ((launch0 (F := F)).cellOf_inj fun _ => adm m h) (0 : Fin 1)
    (launch0 (F := F)).win.to₀ (launch0 (F := F)).pre (emb₁ : Emb (UR sig nD τ) 𝕄) defs₀ Variants.none m ρ main
    (hbody := fun c => (body_all m h c).loose) (hne := (launch0 (F := F)).block_pos)
    (harr := (launch0 (F := F)).arr_whole) (hstage := (launch0 (F := F)).stage_whole) (howed := fun _ _ => rfl)
    (u₀ := seed m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned m h) (dat m h) 0 (launch0 (F := F)).win.arr_inj c (launch0 (F := F)).arr_whole
      (share_full m h c) _ _ fun _ => rfl)
    (hpf := tables_at m h)
    (X := fun _ => iprop(emp)) (Y := fun _ => iprop(emp)) (Z := fun _ => iprop(emp))
    (hX := fun c => by rw [unscopedRestP0_eq]; iintro -; isplitr <;> iempintro)
    (hin := inv_first m h)
    (hout := inv_last m h)
    (QY := fun _ _ => True)
    (hY := fun c s' => by
      iintro ⟨-, -, HSI⟩; imodintro
      isplitr; · ipureintro; trivial
      iexact HSI)
    (hQ := fun _ k hz => ⟨fun c => ⟨(k c).1, (k c).2.1⟩, hz⟩)

include h in
/-- The frame: every argument ends as it was and every semaphore counter at zero. -/
theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r k => ⟨fun c =>
    ⟨((k.1 c).1 (0 : Fin 5)).trans ((dat m h 0 c).arrAt_in (0 : Fin 5) rfl _),
      ((k.1 c).2 0).trans (tables_at m h c 0).symm, ((k.1 c).2 1).trans (tables_at m h c 1).symm,
      ((k.1 c).1 (1 : Fin 5)).trans ((dat m h 0 c).arrAt_in (1 : Fin 5) rfl _),
      ((k.1 c).1 (2 : Fin 5)).trans ((dat m h 0 c).arrAt_in (2 : Fin 5) rfl _),
      ((k.1 c).1 (3 : Fin 5)).trans ((dat m h 0 c).arrAt_in (3 : Fin 5) rfl _)⟩, k.2⟩) (run_all m h ρ)

/-- The value: the result array ends at what the output's blocks say. -/
theorem result (ρ : Dev nD → PrngReg) :
    θ_run (defs (F := F)) (onTc (τ := τ) (main (F := F))) ⟨m, fun _ => 0, ρ⟩ (fun r => ∀ c : Dev nD,
      r.2.mem ((c.tc : Thread nD τ).loc main_v0) = (dat m h 0 c).arrAt (4 : Fin 5) (cfgT m h).N) :=
  (θ_run defs _ _).mono (fun r k c => (k.1 c).1 (4 : Fin 5)) (run_all m h ρ)

end Cert.Moe

end
-- ==== Proof.MoeValue.lean ====
module

public import proofs.«01_k».proof.Proof.MoeFrame
public import proofs.«01_k».proof.Proof.Gen.ReferenceIdeal.Read

/-! # The expert kernel's value

On the extended reals the result array is the reference's: every valid block of rows through its expert, zero under the
others. -/

@[expose] public section

set_option maxRecDepth 16384
set_option Elab.async false

noncomputable section

namespace Cert.Moe

open Cert.KernelIdeal Cert.KernelIdeal.Gen
open Cert.ReferenceIdeal.Read
open Idealize.ShloMosaic
open Idealize.ShloMosaic.TcCoe Idealize.SL.Sem
open Idealize.ShloMosaic.Pipeline (Dat)

/-! ## An expert taken from the stack -/

section Take
variable {α : Type} {A B : Nat}

/-- The dimension numbers of `w[e]` for a stack `w` of 32 matrices and an array `e` of 288 positions. -/
abbrev takeD (A B : Nat) (wf : GatherDims.WF ⟨3, ![32, A, B]⟩ ⟨2, ![288, 1]⟩ ⟨3, ![288, A, B]⟩ [1, 2] [0] [] [0] [] 1 ![1, A, B]) :
    GatherDims ⟨3, ![32, A, B]⟩ ⟨2, ![288, 1]⟩ ⟨3, ![288, A, B]⟩ where
  offsetDims := [1, 2]
  collapsedSliceDims := [0]
  operandBatchingDims := []
  startIndicesBatchingDims := []
  startIndexMap := [0]
  indexVectorDim := 1
  sliceSizes := ![1, A, B]
  wf := wf

/-- Element `(n, a, b)` of `w[e]` is element `(a, b)` of the matrix at position `e n`, where that is one of the 32. -/
theorem take_at (wf) (w : (⟨3, ![32, A, B]⟩ : Shape).Idx → α) (e : IVec ⟨2, ![288, 1]⟩ 32)
    (j : (⟨3, ![288, A, B]⟩ : Shape).Idx) (i : (⟨3, ![32, A, B]⟩ : Shape).Idx) (k : (⟨2, ![288, 1]⟩ : Shape).Idx)
    (hk : (k 0).val = (j 0).val) (he : (e k).toInt.toNat = (i 0).val)
    (h1 : (i 1).val = (j 1).val) (h2 : (i 2).val = (j 2).val) :
    Host.gather (takeD A B wf) w e j = w i := by
  have hs : ∀ c, (takeD A B wf).siIdx j c = k := fun c => by
    funext b; refine Fin.ext ?_
    match b with
    | ⟨0, _⟩ => exact hk.symm
    | ⟨1, _⟩ =>
      have : (k 1).val < 1 := (k 1).isLt
      have hc : c.val < 1 := c.isLt
      show c.val = (k 1).val
      omega
  have hi : (i 0).val < 32 := (i 0).isLt
  unfold Host.gather
  congr 1
  funext a
  refine Fin.ext ?_
  show (takeD A B wf).start j e a + (takeD A B wf).batchCoord j a + (takeD A B wf).offCoord j a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (takeD A B wf).startIndexMap from List.mem_singleton.mpr rfl), hs, he]
    show min (i 0).val (32 - 1) + 0 + 0 = (i 0).val
    omega
  · unfold GatherDims.start
    rw [dif_neg (show ¬ (1 : Fin 3) ∈ (takeD A B wf).startIndexMap from by simp)]
    unfold GatherDims.offCoord
    rw [dif_pos (show (1 : Fin 3) ∈ (takeD A B wf).sKept from (GatherDims.mem_sKept _ _).mpr ⟨by simp, List.not_mem_nil⟩)]
    exact (Nat.zero_add _).trans h1.symm
  · unfold GatherDims.start
    rw [dif_neg (show ¬ (2 : Fin 3) ∈ (takeD A B wf).startIndexMap from by simp)]
    unfold GatherDims.offCoord
    rw [dif_pos (show (2 : Fin 3) ∈ (takeD A B wf).sKept from (GatherDims.mem_sKept _ _).mpr ⟨by simp, List.not_mem_nil⟩)]
    exact (Nat.zero_add _).trans h2.symm

end Take

/-- A table word in range is not negative, so wrapping leaves it. -/
theorem wrap_word (w : BitVec 32) (h : w.toNat < 32) :
    Scalar.select (IntOp.cmpi .slt w 0#32) (IntOp.addi w 32#32) w = w := by
  have hn : w.slt 0#32 = false := by
    have h2 : w.toInt = (w.toNat : Int) := BitVec.toInt_eq_toNat_of_lt (by omega)
    rw [BitVec.slt, h2]; simp
  show Scalar.select (BitVec.ofBool (w.slt 0#32)) _ w = w
  rw [hn]; rfl

theorem word_nat (w : BitVec 32) (h : w.toNat < 32) : w.toInt.toNat = w.toNat := by
  rw [BitVec.toInt_eq_toNat_of_lt (by omega)]; rfl

variable (e : S288.Idx → BitVec 32) (he : ∀ j, (e j).toNat < 32)

include he in
theorem start1 (k : Cert.ReferenceIdeal.S288x1.Idx) : val_main_v6 (F := Ideal) e k = e (pos (k 0)) := by
  rw [val_main_v6_apply, val_main_v5_apply, val_main_v2_apply, val_main_v4_apply, val_main_v1_apply, val_main_v3_apply, val_main_c_apply, val_main_c_0_apply, wrap_word _ (he _)]
  refine congrArg e (funext fun a => Fin.ext ?_)
  fin_cases a; rfl
include he in
theorem start2 (k : Cert.ReferenceIdeal.S288x1.Idx) : val_main_v15 (F := Ideal) e k = e (pos (k 0)) := by
  rw [val_main_v15_apply, val_main_v14_apply, val_main_v11_apply, val_main_v13_apply, val_main_v10_apply, val_main_v12_apply, val_main_c_1_apply, val_main_c_2_apply, wrap_word _ (he _)]
  refine congrArg e (funext fun a => Fin.ext ?_)
  fin_cases a; rfl
include he in
theorem start3 (k : Cert.ReferenceIdeal.S288x1.Idx) : val_main_v24 (F := Ideal) e k = e (pos (k 0)) := by
  rw [val_main_v24_apply, val_main_v23_apply, val_main_v20_apply, val_main_v22_apply, val_main_v19_apply, val_main_v21_apply, val_main_c_3_apply, val_main_c_4_apply, wrap_word _ (he _)]
  refine congrArg e (funext fun a => Fin.ext ?_)
  fin_cases a; rfl

/-- The start index of a block. -/
def startAt (n : Fin 288) : Cert.ReferenceIdeal.S288x1.Idx := fun a => match a with | ⟨0, _⟩ => n | ⟨1, _⟩ => ⟨0, Nat.one_pos⟩

theorem taken1 (w : FVec Ideal S32x1024x512 .f32) (n : Fin 288) (y : S1x1024x512.Idx) (j : Cert.ReferenceIdeal.S288x1024x512.Idx)
    (h0 : (j 0).val = n.val) (h1 : (j 1).val = (y 1).val) (h2 : (j 2).val = (y 2).val) :
    w (inW1 ⟨(e (pos n)).toNat, he _⟩ y) = val_main_v7 (F := Ideal) e w j :=
  (take_at _ w _ j (inW1 ⟨(e (pos n)).toNat, he _⟩ y) (startAt n) h0.symm (by rw [start1 e he]; exact word_nat _ (he _)) h1.symm h2.symm).symm
theorem taken2 (w : FVec Ideal S32x1024x512 .f32) (n : Fin 288) (y : S1x1024x512.Idx) (j : Cert.ReferenceIdeal.S288x1024x512.Idx)
    (h0 : (j 0).val = n.val) (h1 : (j 1).val = (y 1).val) (h2 : (j 2).val = (y 2).val) :
    w (inW1 ⟨(e (pos n)).toNat, he _⟩ y) = val_main_v16 (F := Ideal) e w j :=
  (take_at _ w _ j (inW1 ⟨(e (pos n)).toNat, he _⟩ y) (startAt n) h0.symm (by rw [start2 e he]; exact word_nat _ (he _)) h1.symm h2.symm).symm
theorem taken3 (w : FVec Ideal S32x512x1024 .f32) (n : Fin 288) (y : S1x512x1024.Idx) (j : Cert.ReferenceIdeal.S288x512x1024.Idx)
    (h0 : (j 0).val = n.val) (h1 : (j 1).val = (y 1).val) (h2 : (j 2).val = (y 2).val) :
    w (inW2 ⟨(e (pos n)).toNat, he _⟩ y) = val_main_v25 (F := Ideal) e w j :=
  (take_at _ w _ j (inW2 ⟨(e (pos n)).toNat, he _⟩ y) (startAt n) h0.symm (by rw [start3 e he]; exact word_nat _ (he _)) h1.symm h2.symm).symm

/-! ## A valid block's element -/

/-- A block of rows through one expert, against the reference's product at the block's place. -/
theorem element (X : FVec Ideal S256x1024 .f32) (B1 B2 : FVec Ideal S1x1024x512 .f32) (B3 : FVec Ideal S1x512x1024 .f32)
    (x0 : FVec Ideal S73728x1024 .f32) (w1 w3 : FVec Ideal S32x1024x512 .f32) (w2 : FVec Ideal S32x512x1024 .f32)
    (n : Fin 288) (y : S256x1024.Idx)
    (hX : ∀ z, X z = x0 (inX n z))
    (h1 : ∀ z, B1 z = w1 (inW1 ⟨(e (pos n)).toNat, he _⟩ z))
    (h2 : ∀ z, B2 z = w3 (inW1 ⟨(e (pos n)).toNat, he _⟩ z))
    (h3 : ∀ z, B3 z = w2 (inW2 ⟨(e (pos n)).toNat, he _⟩ z)) :
    k0_pay4 (F := Ideal) X (k0_pay1 (F := Ideal) B1) (k0_pay2 (F := Ideal) B2) (k0_pay3 (F := Ideal) B3) y
      = val_main_v26 (F := Ideal) x0 e w1 w3 w2 (idx_main_v31 (inX n y)) := by
  have c0 : (inX n y 0).val = n.val * 256 + (y 0).val := rfl
  have c1 : (inX n y 1).val = (y 1).val := rfl
  pointwise [k0_pay1, k0_pay2, k0_pay3, k0_pay4, val_main_v0, val_main_v8, val_main_call0_v0, val_main_call0_v1, val_main_call0_cst,
    val_main_call0_v2, val_main_call0_v3, val_main_call0_cst_0, val_main_call0_v4, val_main_call0_v5, val_main_v9, val_main_v17, val_main_v18, val_main_v26]
  have b0 : (y 0).val < 256 := (y 0).isLt
  have b1 : (y 1).val < 1024 := (y 1).isLt
  have j0 : (idx_main_v31 (inX n y) 0).val = n.val := by
    show ((inX n y 0).val * 1024 + (inX n y 1).val) / 262144 = n.val
    rw [c0, c1]; omega
  have j2 : (idx_main_v31 (inX n y) 2).val = (y 1).val := by
    show ((inX n y 0).val * 1024 + (inX n y 1).val) % 1024 = (y 1).val
    rw [c0, c1]; omega
  have r1 : ∀ a b, val_main_v7 (F := Ideal) e w1 (ix3 (idx_main_v31 (inX n y) 0) a b) = B1 (ix3 0 a b) := fun a b =>
    ((h1 _).trans (taken1 e he w1 n (ix3 0 a b) _ j0 rfl rfl)).symm
  have r2 : ∀ a b, val_main_v16 (F := Ideal) e w3 (ix3 (idx_main_v31 (inX n y) 0) a b) = B2 (ix3 0 a b) := fun a b =>
    ((h2 _).trans (taken2 e he w3 n (ix3 0 a b) _ j0 rfl rfl)).symm
  have r3 : ∀ a, val_main_v25 (F := Ideal) e w2 (ix3 (idx_main_v31 (inX n y) 0) a (idx_main_v31 (inX n y) 2)) = B3 (ix3 0 a (y 1)) := fun a =>
    ((h3 _).trans (taken3 e he w2 n (ix3 0 a (y 1)) _ j0 rfl j2)).symm
  have r0 : ∀ (h) a, x0 (ix2 ⟨((inX n y 0).val * 1024 + (inX n y 1).val) / 262144 * 256
      + ((inX n y 0).val * 1024 + (inX n y 1).val) / 1024 % 256, h⟩ a) = X (ix2 (y 0) a) := fun h a => by
    rw [hX]
    refine congrArg x0 (funext fun b => Fin.ext ?_)
    fin_cases b
    · show ((inX n y 0).val * 1024 + (inX n y 1).val) / 262144 * 256 + ((inX n y 0).val * 1024 + (inX n y 1).val) / 1024 % 256
        = n.val * 256 + (y 0).val
      rw [c0, c1]; omega
    · rfl
  simp only [r0, r1, r2, r3, zero_sub]

/-! ## The array -/

/-- Where the output's block lies. -/
theorem ix_out : ∀ t : Fin grid0.N, cc0_transform_4 (grid0.coords t) = ![t.val, 0] := by decide +kernel

/-- Every point writes its block back. -/
theorem flush_out : ∀ t : Fin grid0.N, (true && (t.val + 1 = grid0.N || decide (∃ h : t.val + 1 < grid0.N,
    cc0_transform_4 (grid0.coords ⟨t.val + 1, h⟩) ≠ cc0_transform_4 (grid0.coords t)))) = true := by decide +kernel

variable (m : (ℓ : Loc nD τ sig) → Buf (Elt Ideal) ℓ) (h : InRange m) (c : Dev nD)

/-- The output's blocks tile its array. -/
theorem covers : ((cfgT m h).win (4 : Fin 5)).Covers := by
  refine ⟨fun a => ?_, fun β => ⟨⟨(β (0 : Fin 2)).val, ?_⟩, flush_out _, fun a => ⟨?_, .inl rfl⟩⟩⟩
  · show 0 < S256x1024.size a
    fin_cases a
    · show 0 < 256; omega
    · show 0 < 1024; omega
  · exact Nat.lt_of_lt_of_eq (β (0 : Fin 2)).isLt (show (73728 + 256 - 1) / 256 = grid0.N from by decide +kernel)
  · refine (congrFun (ix_out _) a).trans ?_
    fin_cases a
    · rfl
    · have : (β (1 : Fin 2)).val < 1 := Nat.lt_of_lt_of_eq (β (1 : Fin 2)).isLt (show (1024 + 1024 - 1) / 1024 = 1 from rfl)
      show 0 = (β (1 : Fin 2)).val
      omega

theorem place (t : Fin (cfgT m h).N) (y : S256x1024.Idx) :
    (((cfgT m h).win (4 : Fin 5)).blk t).view.emb y = inX t y := by
  refine funext fun a => Fin.ext ?_
  show cc0_transform_4 (grid0.coords t) a * S256x1024.size a + 1 * (y a).val = ![t.val * 256 + (y 0).val, (y 1).val] a
  rw [ix_out]
  fin_cases a
  · show t.val * 256 + 1 * (y 0).val = t.val * 256 + (y 0).val; omega
  · show 0 * 1024 + 1 * (y 1).val = (y 1).val; omega

/-- The reference's term. -/
abbrev REF (x0 : FVec Ideal S73728x1024 .f32) (x1 x2 : S288.Idx → BitVec 32) (x3 x4 : FVec Ideal S32x1024x512 .f32)
    (x5 : FVec Ideal S32x512x1024 .f32) : FVec Ideal S73728x1024 .f32 :=
  val_main_v31 (F := Ideal) x0 x1 x2 x3 x4 x5

/-- The mark the reference reads for an element. -/
theorem mark (v : S288.Idx → BitVec 32) (n : Fin 288) (y : S256x1024.Idx) :
    val_main_call1_v1 (F := Ideal) v (idx_main_v31 (inX n y)) = IntOp.cmpi .sgt (v (pos n)) 0#32 := by
  rw [val_main_call1_v1_apply, val_main_v29_apply, val_main_v27_apply, val_main_v28_apply, val_main_c_5_apply]
  refine congrArg (fun w => IntOp.cmpi .sgt w 0#32) (congrArg v (funext fun a => Fin.ext ?_))
  have b0 : (y 0).val < 256 := (y 0).isLt
  have b1 : (y 1).val < 1024 := (y 1).isLt
  fin_cases a
  show ((n.val * 256 + (y 0).val) * 1024 + (y 1).val) / 262144 = n.val
  omega

theorem read (x0 : FVec Ideal S73728x1024 .f32) (x1 x2 : S288.Idx → BitVec 32) (x3 x4 : FVec Ideal S32x1024x512 .f32)
    (x5 : FVec Ideal S32x512x1024 .f32) (n : Fin 288) (y : S256x1024.Idx) : REF x0 x1 x2 x3 x4 x5 (inX n y)
      = Scalar.select (IntOp.cmpi .sgt (x2 (pos n)) 0#32) (val_main_v26 (F := Ideal) x0 x1 x3 x4 x5 (idx_main_v31 (inX n y))) 0 := by
  rw [REF, val_main_v31_apply, val_main_v30_apply, mark]
  exact congrArg (Scalar.select _ _) Ideal.ofBits_zero_f32

/-- What a point leaves at an element is the reference at the element's place. -/
theorem point (t : Fin (cfgT m h).N) (y : S256x1024.Idx) :
    outT m h c t y = REF (m ((c : Thread nD τ).loc main_arg0)) (expT m) (valT m) (m ((c : Thread nD τ).loc main_arg3))
      (m ((c : Thread nD τ).loc main_arg4)) (m ((c : Thread nD τ).loc main_arg5)) (inX t y) := by
  refine Eq.trans ?_ (read _ _ _ _ _ _ t y).symm
  unfold outT rows
  rcases h.2 (pos t) with hv | hv
  · rw [if_neg (fun k => by rw [valid_iff m c t h, hv] at k; exact absurd k (by decide)), hv]
    exact Ideal.ofBits_zero_f32
  · rw [if_pos ((valid_iff m c t h).2 hv), hv]
    exact element (expT m) h.1 _ _ _ _ _ _ _ _ t y (blk0 m c h t hv) (blk1 m c h t) (blk2 m c h t) (blk3 m c h t)

/-- The result array after the run. -/
theorem final : (dat m h 0 c).arrAt (4 : Fin 5) (cfgT m h).N
    = REF (m ((c : Thread nD τ).loc main_arg0)) (expT m) (valT m) (m ((c : Thread nD τ).loc main_arg3))
        (m ((c : Thread nD τ).loc main_arg4)) (m ((c : Thread nD τ).loc main_arg5)) := by
  refine (dat m h 0 c).arrAt_eq_of_covers (4 : Fin 5) _ (covers m h) fun t _ y => ?_
  rw [place]
  exact point m h c t y

end Cert.Moe

end
-- ==== Proof.Range.lean ====
module

public import proofs.«01_k».proof.Pre_in_range
public import Idealize.ShloMosaic.Lib.ReduceAll
public import Idealize.ShloMosaic.Lib.StableHlo.Predicate

/-! # The range of the tables

The precondition, a boolean computed of the arguments, says what it is meant to say: every entry of the first table is
one of the 32 experts, every entry of the second is 0 or 1. -/

@[expose] public section

namespace Cert.Range

open Idealize.ShloMosaic Cert.Pre_in_range

variable [Facts] {F : FTy → Type} [FloatOps F]

theorem and_one (a b : BitVec 1) (h : a &&& b = 1#1) : a = 1#1 ∧ b = 1#1 := by revert a b; decide

/-- A word that is at least 0 and less than 32 as a signed integer is less than 32. -/
theorem expert_word (w : BitVec 32) (h0 : IntOp.cmpi .sge w 0#32 = 1#1) (h1 : IntOp.cmpi .slt w 32#32 = 1#1) : w.toNat < 32 := by
  unfold IntOp.cmpi at h0 h1
  simp only [StableHlo.Predicate.ofBool_eq_one_iff, BitVec.sle, BitVec.slt, decide_eq_true_eq] at h0 h1
  rw [show (0#32 : BitVec 32).toInt = 0 from rfl] at h0
  rw [show (32#32 : BitVec 32).toInt = 32 from rfl] at h1
  rw [BitVec.toInt_eq_toNat_cond] at h0 h1
  have := w.isLt
  split at h0 <;> omega

/-- A word that is at least 0 and at most 1 as a signed integer is 0 or 1. -/
theorem mark_word (w : BitVec 32) (h0 : IntOp.cmpi .sge w 0#32 = 1#1) (h1 : IntOp.cmpi .sle w 1#32 = 1#1) : w = 0#32 ∨ w = 1#32 := by
  unfold IntOp.cmpi at h0 h1
  simp only [StableHlo.Predicate.ofBool_eq_one_iff, BitVec.sle, decide_eq_true_eq] at h0 h1
  rw [show (0#32 : BitVec 32).toInt = 0 from rfl] at h0
  rw [show (1#32 : BitVec 32).toInt = 1 from rfl] at h1
  rw [BitVec.toInt_eq_toNat_cond] at h0 h1
  have := w.isLt
  have k : w.toNat = 0 ∨ w.toNat = 1 := by split at h0 <;> omega
  exact k.imp (fun k => BitVec.eq_of_toNat_eq k) fun k => BitVec.eq_of_toNat_eq k

/-- What the precondition says of the two tables. -/
theorem decode (x0 : FVec F S73728x1024 .f32) (e v : IVec S288 32) (x3 x4 : FVec F S32x1024x512 .f32) (x5 : FVec F S32x512x1024 .f32)
    (h : Cert.Pre_in_range.fn x0 e v x3 x4 x5 = fun _ => 1#1) :
    (∀ j, (e j).toNat < 32) ∧ ∀ j, v j = 0#32 ∨ v j = 1#32 := by
  have hz : Subsingleton S_.Idx := ⟨fun a b => funext fun i => i.elim0⟩
  have h := congrFun h fun i => i.elim0
  obtain ⟨h, h4⟩ := and_one _ _ h
  obtain ⟨h, h3⟩ := and_one _ _ h
  obtain ⟨h1, h2⟩ := and_one _ _ h
  have g1 := fun j => (Host.reduce_andi_all _ _ _ _ _ h1) j
  have g2 := fun j => (Host.reduce_andi_all _ _ _ _ _ h2) j
  have g3 := fun j => (Host.reduce_andi_all _ _ _ _ _ h3) j
  have g4 := fun j => (Host.reduce_andi_all _ _ _ _ _ h4) j
  exact ⟨fun j => expert_word _ (g1 j) (g2 j), fun j => mark_word _ (g3 j) (g4 j)⟩

end Cert.Range
-- ==== Proof.MoeClaims.lean ====
module

public import proofs.«01_k».proof.Defs
public import proofs.«01_k».proof.Proof.Gen.Kernel
public import proofs.«01_k».proof.Proof.Gen.ReferenceIdeal.Run
public import proofs.«01_k».proof.Proof.MoeValue
public import proofs.«01_k».proof.Proof.Range
public import Idealize.ShloMosaic.Lib.Claim

/-! # The experts' program: its claims

The precondition gives `InRange`, under which the run of the pipeline is known over any float semantics. The program as
printed and the one read over the extended reals are the same text, so one frame serves both. -/

@[expose] public section

namespace Cert.Moe

open Idealize.ShloMosaic Idealize.SL.Sem

/-- The tables are in range when the precondition holds on every device. -/
theorem inRange_ideal (m : (ℓ : Loc Cert.KernelIdeal.nD Cert.KernelIdeal.τ Cert.KernelIdeal.sig) → Buf (Elt Ideal) ℓ)
    [Cert.Pre_in_range.Facts] (h : Cert.Pre_KernelIdeal m) : InRange m :=
  Range.decode _ _ _ _ _ _ (h 0)

theorem inRange_bits (m : (ℓ : Loc Cert.KernelIdeal.nD Cert.KernelIdeal.τ Cert.KernelIdeal.sig) → Buf (Elt Bits) ℓ)
    [Cert.Pre_in_range.Facts] (h : Cert.Pre_Kernel m) : InRange m :=
  Range.decode _ _ _ _ _ _ (h 0)

variable [Cert.Pre_in_range.Facts]

theorem quiescent_ideal : Cert.quiescent_KernelIdeal := fun m g h => frame m (inRange_ideal m h) g

/-! ## One text, two names

The two programs' bodies, pipelines and tables of bodies are equal by unfolding the names. -/

section
variable {F : FTy → Type} [FloatOps F]

theorem bodies_eq : @Cert.Kernel.defs₀ F _ _ = @Cert.KernelIdeal.defs₀ F _ _ := by
  unfold Cert.Kernel.defs₀ Cert.KernelIdeal.defs₀
  refine congrArg (Defs.onTc (nD := Cert.KernelIdeal.nD) (τ := Cert.KernelIdeal.τ) (sig := Cert.KernelIdeal.sig)
    (Val := Elt F) (Λ := Cert.KernelIdeal.Λ₀)) (funext fun l => funext fun a => ?_)
  match l, a with
  | 0, (t, s) =>
    dsimp only
    unfold Cert.Kernel.cc0_moe_mlp Cert.KernelIdeal.cc0_moe_mlp
    with_unfolding_all rfl

theorem defs_eq : @Cert.Kernel.defs F _ _ = @Cert.KernelIdeal.defs F _ _ :=
  congrArg (Pipeline.defs (@Cert.KernelIdeal.pcfgs F _ _)) bodies_eq

end

theorem quiescent_bits : Cert.quiescent_Kernel := fun m g h =>
  Eq.mpr (congrArg (fun D => θ_run D (onTc (τ := Cert.KernelIdeal.τ) (Cert.KernelIdeal.main (F := Bits))) ⟨m, fun _ => 0, g⟩ _) (defs_eq (F := Bits)))
    (frame (F := Bits) m (inRange_bits m h) g)

/-- The run with the value and the arguments kept. -/
theorem run_value (m : (ℓ : Loc Cert.KernelIdeal.nD Cert.KernelIdeal.τ Cert.KernelIdeal.sig) → Buf (Elt Ideal) ℓ) (h : InRange m)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0)
        = REF (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))) :=
  (θ_run _ _ _).mono (fun r k c => by
    obtain rfl : c = 0 := Subsingleton.elim _ _
    exact (k 0).trans (final m h 0)) (result m h g)

theorem algebraic : Cert.algebraic_KernelIdeal_ReferenceIdeal := by
  pair_intro
  · run_from run_value m (inRange_ideal m hpre) g & frame m (inRange_ideal m hpre) g
  · run_from Cert.ReferenceIdeal.Value.run m' g'
    exact Cert.ReferenceIdeal.Read.val_main_v31_eq _ _ _ _ _ _

end Cert.Moe
-- ==== Proof.Ple.lean ====
/-
  The per-layer embedding (`_ple`): the residual rows plus a gated projection of the layer's own embedding.

  The first point of every row of the grid leaves the normalised rows and the embedding's rows, rounded, in two scratch
  buffers; the other point of that row reads them back. So at every point the two scratches hold what the point's own
  blocks give, and the array after the run is the reference's sum.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim
public import Idealize.ShloMosaic.Lib.Pipeline.ReadBack
public import Idealize.ShloMosaic.Lib.Pipeline.ValueKit

@[expose] public section

set_option maxRecDepth 16384

noncomputable section

namespace Cert.Ple

open Idealize.ShloMosaic Idealize.ShloMosaic.TcCoe Idealize.SL.Sem
open Idealize.ShloMosaic.Pipeline (Dat)
open Cert.Kernel2Ideal Cert.Kernel2Ideal.Gen
open Cert.Reference2Ideal.Read

variable (m : (ℓ : Loc nD τ sig) → Buf (Elt Ideal) ℓ)

/-- The reference's term: the rows plus the gate of the normalised rows times the projected embedding. -/
abbrev REF (x0 : FVec Ideal S32768x1024 .f32) (x1 : FVec Ideal S1024 .f32) (x2 : FVec Ideal S1024x1024 .f32)
    (x3 : FVec Ideal S32768x256 .f32) (x4 : FVec Ideal S256x1024 .f32) : FVec Ideal S32768x1024 .f32 :=
  val_main_v22 (F := Ideal) x0 x1 x2 x3 x4

/-- Where each window's block lies, by the point's position: two points share one block of rows. -/
theorem idx : ∀ t : Fin cfg0.N,
    win0_0.index t = ![t.val / 2, 0] ∧ win0_1.index t = ![0, 0] ∧ win0_2.index t = ![0, t.val % 2]
      ∧ win0_3.index t = ![t.val / 2, 0] ∧ win0_4.index t = ![0, t.val % 2] ∧ win0_5.index t = ![t.val / 2, t.val % 2] :=
  (by decide +kernel : ∀ t : Fin grid0.N, _)

/-- Where the residual's columns begin in the block of rows. -/
theorem off : ∀ t : Fin cfg0.N, k0_off1 (grid0.coords t) = ![0, t.val % 2 * 512] :=
  (by decide +kernel : ∀ t : Fin grid0.N, _)

/-- Two points of one row of the grid read the same rows, the same gain and the same embedding. -/
theorem same_rows (c : Dev nD) (t t' : Fin cfg0.N) (h : t.val / 2 = t'.val / 2) :
    iblk m c 0 t = iblk m c 0 t' ∧ iblk m c 1 t = iblk m c 1 t' ∧ iblk m c 3 t = iblk m c 3 t' := by
  refine ⟨?_, ?_, ?_⟩
  · funext y
    blk_simp [iblk]
    congr 1
    blk_ext [idx t, idx t']
  · funext y
    blk_simp [iblk]
    congr 1
    blk_ext [idx t, idx t']
  · funext y
    blk_simp [iblk]
    congr 1
    blk_ext [idx t, idx t']

/-- After every point the first scratch holds the normalised rows of that point's block, the second its embedding. -/
theorem scratch (c : Dev nD) : ∀ (n : ℕ) (hn : n < cfg0.N),
    (outsAt0 m c n hn).2.1 = k0_pay1 (iblk m c 0 ⟨n, hn⟩) (iblk m c 1 ⟨n, hn⟩)
      ∧ (outsAt0 m c n hn).2.2 = k0_pay2 (iblk m c 3 ⟨n, hn⟩) := by
  intro n
  induction n with
  | zero =>
    intro hn
    rw [outsAt0_A m c ⟨0, hn⟩ rfl]
    constructor <;> frame_out
  | succ n ih =>
    intro hn
    by_cases h0 : (n + 1) % 2 = 0
    · rw [outsAt0_A m c ⟨n + 1, hn⟩ h0]
      constructor <;> frame_out
    · rw [outsAt0_B m c ⟨n + 1, hn⟩ h0]
      have e := same_rows m c ⟨n, Nat.lt_of_succ_lt hn⟩ ⟨n + 1, hn⟩ (by show n / 2 = (n + 1) / 2; omega)
      have i := ih (Nat.lt_of_succ_lt hn)
      rw [e.1, e.2.1, e.2.2] at i
      exact i

/-- The columns of the block of rows the point adds to. -/
abbrev res (c : Dev nD) (t : Fin cfg0.N) : Vec Ideal S512x512 .f32 :=
  View.ld (iblk m c 0 t : Vec Ideal S512x1024 .f32) (Rect.unit (s := S512x1024) (k0_off1 (grid0.coords t)) S512x512.size (k0_off1_inb (grid0.coords t)))

/-- What every point leaves in the output's buffer. -/
theorem out (c : Dev nD) (t : Fin cfg0.N) :
    (outsAt0 m c t.val t.isLt).1
      = k0_pay3 (k0_pay1 (iblk m c 0 t) (iblk m c 1 t)) (iblk m c 2 t) (k0_pay2 (iblk m c 3 t)) (iblk m c 4 t) (res m c t) := by
  by_cases h0 : t.val % 2 = 0
  · rw [outsAt0_A m c t h0]
    frame_out
    rfl
  · rw [outsAt0_B m c t h0]
    have hpos : t.val ≠ 0 := fun h => h0 (by rw [h])
    have e := same_rows m c ⟨t.val - 1, Nat.lt_of_le_of_lt (Nat.sub_le _ _) t.isLt⟩ t (by show (t.val - 1) / 2 = t.val / 2; omega)
    rw [(scratch m c _ _).1, (scratch m c _ _).2, e.1, e.2.1, e.2.2]
    frame_out
    rw [read_unread_whole, read_unread_whole]
    rfl

/-- What the body leaves at an index of a point's block is the reference at that index's place in the array. -/
theorem point (c : Dev nD) (t : Fin cfg0.N) (y) :
    k0_pay3 (k0_pay1 (iblk m c 0 t) (iblk m c 1 t)) (iblk m c 2 t) (k0_pay2 (iblk m c 3 t)) (iblk m c 4 t) (res m c t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, k0_pay2, k0_pay3, REF, val_main_v0, val_main_cst, val_main_v1, val_main_v2, val_main_cst_0, val_main_v3,
    val_main_v4, val_main_cst_1, val_main_v5, val_main_v6, val_main_v7, val_main_v8, val_main_v9, val_main_v10, val_main_v11,
    val_main_v12, val_main_v13, val_main_v14, val_main_v15, val_main_cst_2, val_main_v16, val_main_v17, val_main_cst_3,
    val_main_v18, val_main_v19, val_main_v20, val_main_v21, val_main_v22, zero_sub]
  blk_point [iblk, V, idx t, res, off t]

/-- The result array after the run. -/
theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, out]
  exact point m c t y

/-- The value claim: the program and the reference end with one array. -/
theorem algebraic : Cert.algebraic_Kernel2Ideal_Reference2Ideal := by
  pair_intro
  · run_from Cert.Kernel2Ideal.Value.run_blocks m g
  · run_from Cert.Reference2Ideal.Value.run m' g'
    exact (final m c).symm

end Cert.Ple

end
-- ==== Proof.InProj.lean ====
/-
  The delta layers' input projection (`_rms_matmul`): rows normalised, then multiplied by the weights.

  The first point of every row of the grid normalises its 512 rows into a scratch buffer; the other points of that row
  read it back. So at every point the scratch holds the normalised rows of the point's own block, and the array after
  the run is the reference's product of the normalised rows with the leading 4096 columns of the weights.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Lib.Pipeline.ReadBack
public import Idealize.ShloMosaic.Lib.Pipeline.ValueKit

@[expose] public section

set_option maxRecDepth 16384

noncomputable section

namespace Cert.InProj

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

/-- The reference's term: the normalised rows times the weights, the leading columns, rounded. -/
abbrev REF (x0 : FVec Ideal S32768x1024 .f32) (x1 : FVec Ideal S1024 .f32) (x2 : FVec Ideal S1024x4112 .f32) :
    FVec Ideal S32768x4096 .bf16 :=
  val_main_v15 (F := Ideal) x0 x1 x2

/-- Where each window's block lies, by the point's position: eight points share one block of rows. -/
theorem idx : ∀ t : Fin cfg0.N,
    win0_0.index t = ![t.val / 8, 0] ∧ win0_1.index t = ![0, 0] ∧ win0_2.index t = ![0, t.val % 8]
      ∧ win0_4.index t = ![t.val / 8, t.val % 8] :=
  (by decide +kernel : ∀ t : Fin grid0.N, _)

/-- Two points of one row of the grid read the same block of rows and the same gain. -/
theorem same_rows (c : Dev nD) (t t' : Fin cfg0.N) (h : t.val / 8 = t'.val / 8) :
    iblk m c 0 t = iblk m c 0 t' ∧ iblk m c 1 t = iblk m c 1 t' := by
  constructor
  · funext y
    blk_simp [iblk]
    congr 1
    blk_ext [idx t, idx t']
  · funext y
    blk_simp [iblk]
    congr 1
    blk_ext [idx t, idx t']

/-- After every point the scratch holds the normalised rows of that point's block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]
    frame_out
  | succ n ih =>
    intro hn
    by_cases h0 : (n + 1) % 8 = 0
    · rw [outsAt0_A m c ⟨n + 1, hn⟩ h0]
      frame_out
    · rw [outsAt0_B m c ⟨n + 1, hn⟩ h0]
      have e := same_rows m c ⟨n, Nat.lt_of_succ_lt hn⟩ ⟨n + 1, hn⟩ (by show n / 8 = (n + 1) / 8; omega)
      show (outsAt0 m c n (Nat.lt_of_succ_lt hn)).2 = _
      rw [ih, e.1, e.2]

/-- What every point leaves in the output's buffer: the product of the normalised rows with the point's columns. -/
theorem out (c : Dev nD) (t : Fin cfg0.N) :
    (outsAt0 m c t.val t.isLt).1
      = k0_pay2 (k0_pay1 (iblk m c 0 t) (iblk m c 1 t)) (iblk m c 2 t) := by
  by_cases h0 : t.val % 8 = 0
  · rw [outsAt0_A m c t h0]
    frame_out
  · rw [outsAt0_B m c t h0]
    have hpos : t.val ≠ 0 := fun h => h0 (by rw [h])
    have e := same_rows m c ⟨t.val - 1, Nat.lt_of_le_of_lt (Nat.sub_le _ _) t.isLt⟩ t (by show (t.val - 1) / 8 = t.val / 8; omega)
    rw [scratch m c, e.1, e.2]
    frame_out
    rw [read_unread_whole]

/-- What the body leaves at an index of a point's block is the reference at that index's place in the array. -/
theorem point (c : Dev nD) (t : Fin cfg0.N) (y) :
    k0_pay2 (k0_pay1 (iblk m c 0 t) (iblk m c 1 t)) (iblk m c 2 t) y
      = REF (m ((c : Thread nD τ).loc main_arg0)) (m ((c : Thread nD τ).loc main_arg1)) (m ((c : Thread nD τ).loc main_arg2))
          (((cfg0.win 4).blk t).view.emb y) := by
  pointwise [k0_pay1, k0_pay2, REF, val_main_v0, val_main_cst, val_main_v1, val_main_v2, val_main_cst_0, val_main_v3, val_main_v4,
    val_main_cst_1, val_main_v5, val_main_v6, val_main_v7, val_main_v8, val_main_v9, val_main_v10, val_main_v11, val_main_v12,
    val_main_v13, val_main_v14, val_main_v15]
  blk_point [iblk, V, idx t]

/-- The result array after the run. -/
theorem final (c : Dev nD) : (dats m 0 c).arrAt 4 cfg0.N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, out]
  exact point m c t y

/-- The value claim: the program and the reference end with one array. -/
theorem algebraic : Cert.algebraic_Kernel3Ideal_Reference3Ideal := by
  pair_intro
  · run_from Cert.Kernel3Ideal.Value.run_blocks m g
  · run_from Cert.Reference3Ideal.Value.run m' g'
    exact (final m c).symm

end Cert.InProj

end
-- ==== Proof.QProj.lean ====
/-
  The queries' projection (`_q_proj`): rows normalised, multiplied by the weights, every head normalised and scaled.

  The first point of every row of the grid normalises its 512 rows into a scratch buffer; the other points of that row
  read it back. A point's 512 columns are four heads of 128; the gains of a stage's heads are the stage's gains, four
  times over. The kernel multiplies the gain by the scale first, the reference scales last: the same product.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Lib.Pipeline.ReadBack
public import Idealize.ShloMosaic.Lib.Pipeline.ValueKit

@[expose] public section

set_option maxRecDepth 16384

noncomputable section

namespace Cert.QProj

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

/-- The reference's term: the queries of all three stages, head by head normalised and scaled. -/
abbrev REF (x0 : FVec Ideal S32768x1024 .f32) (x1 : FVec Ideal S1024 .f32) (x2 : FVec Ideal S1024x1536 .f32)
    (x3 : FVec Ideal S3x128 .f32) : FVec Ideal S32768x1536 .f32 :=
  val_main_v31 (F := Ideal) x0 x1 x2 x3

/-- Where each window's block lies, by the point's position: three points share one block of rows. -/
theorem idx : ∀ t : Fin cfg0.N,
    win0_0.index t = ![t.val / 3, 0] ∧ win0_1.index t = ![0, 0] ∧ win0_2.index t = ![0, t.val % 3]
      ∧ win0_3.index t = ![0, t.val % 3] ∧ win0_4.index t = ![t.val / 3, t.val % 3] :=
  (by decide +kernel : ∀ t : Fin grid0.N, _)

/-- Two points of one row of the grid read the same block of rows and the same gain. -/
theorem same_rows (c : Dev nD) (t t' : Fin cfg0.N) (h : t.val / 3 = t'.val / 3) :
    iblk m c 0 t = iblk m c 0 t' ∧ iblk m c 1 t = iblk m c 1 t' := by
  constructor
  · funext y
    blk_simp [iblk]
    congr 1
    blk_ext [idx t, idx t']
  · funext y
    blk_simp [iblk]
    congr 1
    blk_ext [idx t, idx t']

/-- After every point the scratch holds the normalised rows of that point's block. -/
theorem scratch (c : Dev nD) : ∀ (n : ℕ) (hn : n < cfg0.N),
    (outsAt0 m c n hn).2 = k0_pay2 (iblk m c 0 ⟨n, hn⟩) (iblk m c 1 ⟨n, hn⟩) := by
  intro n
  induction n with
  | zero =>
    intro hn
    rw [outsAt0_A m c ⟨0, hn⟩ rfl]
    frame_out
  | succ n ih =>
    intro hn
    by_cases h0 : (n + 1) % 3 = 0
    · rw [outsAt0_A m c ⟨n + 1, hn⟩ h0]
      frame_out
    · rw [outsAt0_B m c ⟨n + 1, hn⟩ h0]
      have e := same_rows m c ⟨n, Nat.lt_of_succ_lt hn⟩ ⟨n + 1, hn⟩ (by show n / 3 = (n + 1) / 3; omega)
      show (outsAt0 m c n (Nat.lt_of_succ_lt hn)).2 = _
      rw [ih, e.1, e.2]

/-- Head 0's columns of a block of gains. -/
abbrev r0 : Rect S1x512 := Rect.unit (s := S1x512) ![0, 0] S1x128.size inb_S1x512_S1x128_0_0

/-- Head 1's columns of a block of gains. -/
abbrev r1 : Rect S1x512 := Rect.unit (s := S1x512) ![0, 128] S1x128.size inb_S1x512_S1x128_0_128

/-- Head 2's columns of a block of gains. -/
abbrev r2 : Rect S1x512 := Rect.unit (s := S1x512) ![0, 256] S1x128.size inb_S1x512_S1x128_0_256

/-- Head 3's columns of a block of gains. -/
abbrev r3 : Rect S1x512 := Rect.unit (s := S1x512) ![0, 384] S1x128.size inb_S1x512_S1x128_0_384

/-- A point's block from the normalised rows, the point's columns of the weights and its gains. -/
def blockOut (x : Vec Ideal S512x1024 .bf16) (w : Vec Ideal S1024x512 .bf16) (g : Vec Ideal S1x512 .f32) : FVec Ideal S512x512 .f32 :=
  k0_pay1 (k0_pay3 x w) (k0_pay4 x w (View.ld g r0)) (k0_pay5 x w) (k0_pay6 (View.ld g r1)) (k0_pay7 (F := Ideal)) (View.ld g r2) (View.ld g r3)

/-- What every point leaves in the output's buffer. -/
theorem out (c : Dev nD) (t : Fin cfg0.N) :
    (outsAt0 m c t.val t.isLt).1
      = blockOut (k0_pay2 (iblk m c 0 t) (iblk m c 1 t)) (iblk m c 2 t) (iblk m c 3 t) := by
  by_cases h0 : t.val % 3 = 0
  · rw [outsAt0_A m c t h0]
    frame_out
    rfl
  · rw [outsAt0_B m c t h0]
    have e := same_rows m c ⟨t.val - 1, Nat.lt_of_le_of_lt (Nat.sub_le _ _) t.isLt⟩ t (by show (t.val - 1) / 3 = t.val / 3; omega)
    rw [scratch m c, e.1, e.2]
    frame_out
    rw [read_unread_whole]
    rfl

/-! ## One head, on both sides -/

/-- Column `d` of the head that an element of a point's block lies in. -/
def col (y : S512x512.Idx) (d : Fin 128) : S512x512.Idx :=
  ix2 (y 0) ⟨(y 1).val / 128 * 128 + d.val, by have := (y 1).isLt; have : (y 1).val < 512 := this; have := d.isLt; omega⟩

/-- An element of a product `P`, divided by the root mean square of its head's row, times its gain and the scale. -/
def head (P : FVec Ideal S512x512 .f32) (g : Vec Ideal S1x512 .f32) (y : S512x512.Idx) : EReal :=
  P y * Ideal.rsqrt (Ideal.div (∑ d, P (col y d) * P (col y d)) (Ideal.ofBits FTy.f32 1124073472#32) + Ideal.ofBits FTy.f32 897988541#32)
    * (g (ix2 0 (y 1)) * Ideal.ofBits FTy.f32 1035273459#32)

theorem head_at (P : FVec Ideal S512x512 .f32) (g : Vec Ideal S1x512 .f32) (y y' : S512x512.Idx) (z : Fin 512)
    (c : Fin 128 → S512x512.Idx) (hy : y' = y) (hz : z = y 1) (hc : ∀ d, c d = col y d) :
    P y' * Ideal.rsqrt (Ideal.div (∑ d, P (c d) * P (c d)) (Ideal.ofBits FTy.f32 1124073472#32) + Ideal.ofBits FTy.f32 897988541#32)
      * (g (ix2 0 z) * Ideal.ofBits FTy.f32 1035273459#32) = head P g y := by
  obtain rfl : c = col y := funext hc
  subst hy hz
  rfl

theorem heads (x : Vec Ideal S512x1024 .bf16) (w : Vec Ideal S1024x512 .bf16) (g : Vec Ideal S1x512 .f32) (y : S512x512.Idx) :
    blockOut x w g y = head (k0_pay3 x w) g y := by
  pointwise [blockOut, r0, r1, r2, r3, k0_pay1, k0_pay4, k0_pay5, k0_pay6, k0_pay7]
  have b : (y 1).val < 512 := (y 1).isLt
  by_cases h1 : (y 1).val < 128
  · rw [dif_pos h1]
    refine head_at _ g y _ _ _ rfl rfl fun d => congrArg (ix2 (y 0)) (Fin.ext ?_)
    show d.val = (y 1).val / 128 * 128 + d.val
    omega
  rw [dif_neg h1]
  by_cases h2 : (y 1).val - 128 < 128
  · rw [dif_pos h2]
    refine head_at _ g y _ _ _ ?_ (Fin.ext ?_) fun d => congrArg (ix2 (y 0)) (Fin.ext ?_)
    · refine funext fun a => Fin.ext ?_
      fin_cases a
      · rfl
      · show 128 + ((y 1).val - 128) = (y 1).val
        omega
    · show 128 + ((y 1).val - 128) = (y 1).val
      omega
    · show 128 + d.val = (y 1).val / 128 * 128 + d.val
      omega
  rw [dif_neg h2]
  by_cases h3 : (y 1).val - 128 - 128 < 128
  · rw [dif_pos h3]
    refine head_at _ g y _ _ _ ?_ (Fin.ext ?_) fun d => congrArg (ix2 (y 0)) (Fin.ext ?_)
    · refine funext fun a => Fin.ext ?_
      fin_cases a
      · rfl
      · show 256 + ((y 1).val - 128 - 128) = (y 1).val
        omega
    · show 256 + ((y 1).val - 128 - 128) = (y 1).val
      omega
    · show 256 + d.val = (y 1).val / 128 * 128 + d.val
      omega
  · rw [dif_neg h3]
    refine head_at _ g y _ _ _ ?_ (Fin.ext ?_) fun d => congrArg (ix2 (y 0)) (Fin.ext ?_)
    · refine funext fun a => Fin.ext ?_
      fin_cases a
      · rfl
      · show 384 + ((y 1).val - 128 - 128 - 128) = (y 1).val
        omega
    · show 384 + ((y 1).val - 128 - 128 - 128) = (y 1).val
      omega
    · show 384 + d.val = (y 1).val / 128 * 128 + d.val
      omega

/-- Column `d` of the head that an element of the queries lies in. -/
def colR (i : S32768x1536.Idx) (d : Fin 128) : S32768x1536.Idx :=
  ix2 (i 0) ⟨(i 1).val / 128 * 128 + d.val, by have : (i 1).val < 1536 := (i 1).isLt; have := d.isLt; omega⟩

/-- An element of a product `Q`, divided by the root mean square of its head's row, times its gain, times the scale. -/
def headR (Q : FVec Ideal S32768x1536 .f32) (x3 : FVec Ideal S3x128 .f32) (i : S32768x1536.Idx) : EReal :=
  Q i * Ideal.rsqrt (Ideal.div (∑ d, Q (colR i d) * Q (colR i d)) (Ideal.ofBits FTy.f32 1124073472#32) + Ideal.ofBits FTy.f32 897988541#32)
    * x3 (ix2 ⟨(i 1).val / 512, by have : (i 1).val < 1536 := (i 1).isLt; omega⟩ ⟨(i 1).val % 128, Nat.mod_lt _ (by decide)⟩)
    * Ideal.ofBits FTy.f32 1035273459#32

theorem headR_at (Q : FVec Ideal S32768x1536 .f32) (x3 : FVec Ideal S3x128 .f32) (i : S32768x1536.Idx)
    (c : Fin 128 → S32768x1536.Idx) (hc : ∀ d, c d = colR i d) (h1 h2) :
    Q i * Ideal.rsqrt (Ideal.div (∑ d, Q (c d) * Q (c d)) (Ideal.ofBits FTy.f32 1124073472#32) + Ideal.ofBits FTy.f32 897988541#32)
      * x3 (ix2 ⟨(i 1).val / 512, h1⟩ ⟨(i 1).val % 128, h2⟩)
      * Ideal.ofBits FTy.f32 1035273459#32 = headR Q x3 i := by
  obtain rfl : c = colR i := funext hc
  rfl

/-- The reference at an index, from its product at that index and at the columns of the same head. -/
theorem ref_head (x0 : FVec Ideal S32768x1024 .f32) (x1 : FVec Ideal S1024 .f32) (x2 : FVec Ideal S1024x1536 .f32)
    (x3 : FVec Ideal S3x128 .f32) (i : S32768x1536.Idx) :
    REF x0 x1 x2 x3 i = headR (val_main_v13 (F := Ideal) x0 x1 x2) x3 i := by
  pointwise [REF, val_main_v14, val_main_v15, val_main_v16, val_main_cst_2, val_main_v17, val_main_v18, val_main_cst_3,
    val_main_v19, val_main_v20, val_main_cst_4, val_main_v21, val_main_v22, val_main_v23, val_main_v24, val_main_v25,
    val_main_v26, val_main_v27, val_main_v28, val_main_cst_5, val_main_v29, val_main_v30, val_main_v31]
  refine headR_at _ x3 i _ (fun d => congrArg (ix2 (i 0)) (Fin.ext ?_)) _ _
  show (i 1).val / 512 * 512 + (i 1).val / 128 % 4 * 128 + d.val = (i 1).val / 128 * 128 + d.val
  omega

/-! ## The operands -/

/-- Stage 0's gains after the first fifteen operations: once for each of its four heads. -/
theorem stage0 (c : Dev nD) (z : S512.Idx) :
    (StableHlo.after ((hostOps0 (F := Ideal)).take 15) (fun b => m (c, b)) (Proc.devRef .tc main_v4) : FVec Ideal S512 .f32) z
      = m ((c : Thread nD τ).loc main_arg3) (ix2 0 ⟨(z 0).val % 128, Nat.mod_lt _ (by decide)⟩ : S3x128.Idx) := by
  simp only [hostOps0, List.take_succ_cons, List.take_zero]
  entry_read
  pointwise

/-- Stage 1's gains after the first fifteen operations: once for each of its four heads. -/
theorem stage1 (c : Dev nD) (z : S512.Idx) :
    (StableHlo.after ((hostOps0 (F := Ideal)).take 15) (fun b => m (c, b)) (Proc.devRef .tc main_v9) : FVec Ideal S512 .f32) z
      = m ((c : Thread nD τ).loc main_arg3) (ix2 1 ⟨(z 0).val % 128, Nat.mod_lt _ (by decide)⟩ : S3x128.Idx) := by
  simp only [hostOps0, List.take_succ_cons, List.take_zero]
  entry_read
  pointwise

/-- Stage 2's gains after the first fifteen operations: once for each of its four heads. -/
theorem stage2 (c : Dev nD) (z : S512.Idx) :
    (StableHlo.after ((hostOps0 (F := Ideal)).take 15) (fun b => m (c, b)) (Proc.devRef .tc main_v14) : FVec Ideal S512 .f32) z
      = m ((c : Thread nD τ).loc main_arg3) (ix2 2 ⟨(z 0).val % 128, Nat.mod_lt _ (by decide)⟩ : S3x128.Idx) := by
  simp only [hostOps0, List.take_succ_cons, List.take_zero]
  entry_read
  pointwise

/-- The last four operations over any contents: the row of gains is the three stages' side by side. -/
theorem joined (F : Valuation τ sig (Elt Ideal)) :
    (StableHlo.after ((hostOps0 (F := Ideal)).drop 15) F (Proc.devRef .tc main_v16) : FVec Ideal S1x1536 .f32)
      = shapeCast S1x1536 (concatenate S1536 0 [⟨S512, (F (Proc.devRef .tc main_v4) : FVec Ideal S512 .f32)⟩,
          ⟨S512, (F (Proc.devRef .tc main_v9) : FVec Ideal S512 .f32)⟩, ⟨S512, (F (Proc.devRef .tc main_v14) : FVec Ideal S512 .f32)⟩]
          concatenates_S512_S512_S512_S1536_d0) shapeCasts_S1536_S1x1536 := by
  simp only [hostOps0, List.drop_succ_cons, List.drop_zero, StableHlo.after_cons, StableHlo.after_nil]
  rw [StableHlo.reshape_result_ne _ _ _ _ _ _ _ (by decide), StableHlo.unary_result_ne _ _ _ _ _ _ (by decide), StableHlo.reshape_result,
    StableHlo.nary_result]
  rfl

/-- The joined row of three stages' gains at an index. -/
theorem joined_at (x3 : FVec Ideal S3x128 .f32) (g0 g1 g2 : FVec Ideal S512 .f32)
    (h0 : ∀ z, g0 z = x3 (ix2 0 ⟨(z 0).val % 128, Nat.mod_lt _ (by decide)⟩))
    (h1 : ∀ z, g1 z = x3 (ix2 1 ⟨(z 0).val % 128, Nat.mod_lt _ (by decide)⟩))
    (h2 : ∀ z, g2 z = x3 (ix2 2 ⟨(z 0).val % 128, Nat.mod_lt _ (by decide)⟩)) (z : S1x1536.Idx) :
    shapeCast S1x1536 (concatenate S1536 0 [⟨S512, g0⟩, ⟨S512, g1⟩, ⟨S512, g2⟩] concatenates_S512_S512_S512_S1536_d0)
        shapeCasts_S1536_S1x1536 z
      = x3 (ix2 ⟨(z 1).val / 512, by have : (z 1).val < 1536 := (z 1).isLt; omega⟩ ⟨(z 1).val % 128, Nat.mod_lt _ (by decide)⟩) := by
  have at_ : ∀ (a a' : Fin 3) (d d' : Fin 128), a.val = a'.val → d.val = d'.val → x3 (ix2 a d) = x3 (ix2 a' d') := by
    intro a a' d d' ha hd
    rw [Fin.ext ha, Fin.ext hd]
  have b : (z 1).val < 1536 := (z 1).isLt
  pointwise
  by_cases k1 : (z 1).val < 512
  · rw [dif_pos k1, h0]
    exact at_ _ _ _ _ (show 0 = (z 1).val / 512 by omega) rfl
  rw [dif_neg k1]
  by_cases k2 : (z 1).val - 512 < 512
  · rw [dif_pos k2, h1]
    exact at_ _ _ _ _ (show 1 = (z 1).val / 512 by omega) (show ((z 1).val - 512) % 128 = (z 1).val % 128 by omega)
  · rw [dif_neg k2, h2]
    exact at_ _ _ _ _ (show 2 = (z 1).val / 512 by omega) (show ((z 1).val - 512 - 512) % 128 = (z 1).val % 128 by omega)

/-- The kernel's row of gains: each stage's gains, once for each of its four heads. -/
theorem gains (c : Dev nD) (z : S1x1536.Idx) :
    V m c main_v16 z = m ((c : Thread nD τ).loc main_arg3)
      (ix2 ⟨(z 1).val / 512, by have : (z 1).val < 1536 := (z 1).isLt; omega⟩ ⟨(z 1).val % 128, Nat.mod_lt _ (by decide)⟩) :=
  (congrFun (joined _) z).trans (joined_at _ _ _ _ (stage0 m c) (stage1 m c) (stage2 m c) z)

/-- A point's gains: its stage's, the same for each of its four heads. -/
theorem gain (c : Dev nD) (t : Fin cfg0.N) (k : Fin 512) :
    iblk m c 3 t (ix2 0 k) = m ((c : Thread nD τ).loc main_arg3)
      (ix2 ⟨t.val % 3, Nat.mod_lt _ (by decide)⟩ ⟨k.val % 128, Nat.mod_lt _ (by decide)⟩) := by
  blk_simp [iblk]
  rw [gains]
  blk_ext [idx t]

/-- A point's product of normalised rows and weights is the reference's at the point's place. -/
theorem product (c : Dev nD) (t : Fin cfg0.N) (y : S512x512.Idx) :
    k0_pay3 (k0_pay2 (iblk m c 0 t) (iblk m c 1 t)) (iblk m c 2 t) y
      = val_main_v13 (F := Ideal) (m ((c : Thread nD τ).loc main_arg0)) (m ((c : Thread nD τ).loc main_arg1)) (m ((c : Thread nD τ).loc main_arg2))
          (((cfg0.win 4).blk t).view.emb y) := by
  pointwise [k0_pay2, k0_pay3, val_main_v0, val_main_cst, val_main_v1, val_main_v2, val_main_cst_0, val_main_v3, val_main_v4,
    val_main_cst_1, val_main_v5, val_main_v6, val_main_v7, val_main_v8, val_main_v9, val_main_v10, val_main_v11, val_main_v12,
    val_main_v13]
  blk_point [iblk, V, idx t]

/-- Where an element of a point's block lies in the array. -/
theorem place (t : Fin cfg0.N) (y : S512x512.Idx) :
    ((((cfg0.win 4).blk t).view.emb y) 0).val = t.val / 3 * 512 + (y 0).val
      ∧ ((((cfg0.win 4).blk t).view.emb y) 1).val = t.val % 3 * 512 + (y 1).val := by
  constructor
  · show win0_4.index t 0 * 512 + 1 * (y 0).val = _
    rw [(idx t).2.2.2.2]
    show t.val / 3 * 512 + 1 * (y 0).val = _
    omega
  · show win0_4.index t 1 * 512 + 1 * (y 1).val = _
    rw [(idx t).2.2.2.2]
    show t.val % 3 * 512 + 1 * (y 1).val = _
    omega

/-- The columns of a head in a point's block lie at the columns of that head in the array. -/
theorem col_place (t : Fin cfg0.N) (y : S512x512.Idx) (d : Fin 128) :
    ((cfg0.win 4).blk t).view.emb (col y d) = colR (((cfg0.win 4).blk t).view.emb y) d := by
  refine funext fun a => Fin.ext ?_
  fin_cases a
  · exact (place t (col y d)).1.trans (place t y).1.symm
  · refine (place t (col y d)).2.trans ?_
    show t.val % 3 * 512 + ((y 1).val / 128 * 128 + d.val) = ((((cfg0.win 4).blk t).view.emb y) 1).val / 128 * 128 + d.val
    rw [(place t y).2]
    omega

/-- Both sides' elements agree where the products of their heads and their gains do. -/
theorem same_head (P : FVec Ideal S512x512 .f32) (g : Vec Ideal S1x512 .f32) (y : S512x512.Idx) (Q : FVec Ideal S32768x1536 .f32)
    (x3 : FVec Ideal S3x128 .f32) (i : S32768x1536.Idx) (hP : P y = Q i) (hc : ∀ d, P (col y d) = Q (colR i d))
    (hg : g (ix2 0 (y 1)) = x3 (ix2 ⟨(i 1).val / 512, by have : (i 1).val < 1536 := (i 1).isLt; omega⟩ ⟨(i 1).val % 128, Nat.mod_lt _ (by decide)⟩)) :
    head P g y = headR Q x3 i := by
  unfold head headR
  rw [hP, hg, ← mul_assoc]
  simp only [hc]

/-- The gain of an element of a point's block is the gain at its place in the array. -/
theorem gain_place (c : Dev nD) (t : Fin cfg0.N) (y : S512x512.Idx) (i : S32768x1536.Idx)
    (hi : (i 1).val = t.val % 3 * 512 + (y 1).val) :
    iblk m c 3 t (ix2 0 (y 1)) = m ((c : Thread nD τ).loc main_arg3)
      (ix2 ⟨(i 1).val / 512, by have : (i 1).val < 1536 := (i 1).isLt; omega⟩ ⟨(i 1).val % 128, Nat.mod_lt _ (by decide)⟩) := by
  have b : (y 1).val < 512 := (y 1).isLt
  refine (gain m c t (y 1)).trans (congrArg (m ((c : Thread nD τ).loc main_arg3)) (funext fun a => Fin.ext ?_))
  fin_cases a
  · show t.val % 3 = (i 1).val / 512
    omega
  · show (y 1).val % 128 = (i 1).val % 128
    omega

/-- What the body leaves at an index of a point's block is the reference at that index's place in the array. -/
theorem point (c : Dev nD) (t : Fin cfg0.N) (y : S512x512.Idx) :
    blockOut (k0_pay2 (iblk m c 0 t) (iblk m c 1 t)) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) :=
  (heads _ _ _ y).trans ((same_head _ _ y _ _ _ (product m c t y)
    (fun d => (product m c t _).trans (congrArg _ (col_place t y d))) (gain_place m c t y _ (place t y).2)).trans
      (ref_head _ _ _ _ _).symm)

/-- The result array after the run. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4, out]
  exact point m c t y

/-- The value claim: the program and the reference end with one array. -/
theorem algebraic : Cert.algebraic_Kernel4Ideal_Reference4Ideal := by
  pair_intro
  · run_from Cert.Kernel4Ideal.Value.run_blocks m g
  · run_from Cert.Reference4Ideal.Value.run m' g'
    exact (final m c).symm

end Cert.QProj

end
-- ==== Proof.SharedKv.lean ====
/-
  The shared keys and values (`_shared_kv`): rows normalised, multiplied by the weights, the keys' heads normalised.

  The first point of every row of the grid normalises its 512 rows into a scratch buffer; the other points of that row
  read it back. A point's 512 columns are two heads of keys, which are normalised, and two heads of values, which are not.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Lib.Pipeline.ReadBack
public import Idealize.ShloMosaic.Lib.Pipeline.ValueKit

@[expose] public section

set_option maxRecDepth 16384

noncomputable section

namespace Cert.SharedKv

open Idealize.ShloMosaic Idealize.ShloMosaic.TcCoe Idealize.SL.Sem
open Idealize.ShloMosaic.Pipeline (Dat)
open Cert.Kernel5Ideal Cert.Kernel5Ideal.Gen
open Cert.Reference5Ideal.Read

variable (m : (ℓ : Loc nD τ sig) → Buf (Elt Ideal) ℓ)

/-- The reference's term: keys, normalised head by head, and values of all three stages. -/
abbrev REF (x0 : FVec Ideal S32768x1024 .f32) (x1 : FVec Ideal S1024 .f32) (x2 : FVec Ideal S1024x1536 .f32)
    (x3 : FVec Ideal S3x128 .f32) : FVec Ideal S32768x1536 .f32 :=
  val_main_v32 (F := Ideal) x0 x1 x2 x3

/-- Where each window's block lies, by the point's position: three points share one block of rows. -/
theorem idx : ∀ t : Fin cfg0.N,
    win0_0.index t = ![t.val / 3, 0] ∧ win0_1.index t = ![0, 0] ∧ win0_2.index t = ![0, t.val % 3]
      ∧ win0_3.index t = ![0, t.val % 3] ∧ win0_4.index t = ![t.val / 3, t.val % 3] :=
  (by decide +kernel : ∀ t : Fin grid0.N, _)

/-- Two points of one row of the grid read the same block of rows and the same gain. -/
theorem same_rows (c : Dev nD) (t t' : Fin cfg0.N) (h : t.val / 3 = t'.val / 3) :
    iblk m c 0 t = iblk m c 0 t' ∧ iblk m c 1 t = iblk m c 1 t' := by
  constructor
  · funext y
    blk_simp [iblk]
    congr 1
    blk_ext [idx t, idx t']
  · funext y
    blk_simp [iblk]
    congr 1
    blk_ext [idx t, idx t']

/-- After every point the scratch holds the normalised rows of that point's block. -/
theorem scratch (c : Dev nD) : ∀ (n : ℕ) (hn : n < cfg0.N),
    (outsAt0 m c n hn).2 = k0_pay2 (iblk m c 0 ⟨n, hn⟩) (iblk m c 1 ⟨n, hn⟩) := by
  intro n
  induction n with
  | zero =>
    intro hn
    rw [outsAt0_A m c ⟨0, hn⟩ rfl]
    frame_out
  | succ n ih =>
    intro hn
    by_cases h0 : (n + 1) % 3 = 0
    · rw [outsAt0_A m c ⟨n + 1, hn⟩ h0]
      frame_out
    · rw [outsAt0_B m c ⟨n + 1, hn⟩ h0]
      have e := same_rows m c ⟨n, Nat.lt_of_succ_lt hn⟩ ⟨n + 1, hn⟩ (by show n / 3 = (n + 1) / 3; omega)
      show (outsAt0 m c n (Nat.lt_of_succ_lt hn)).2 = _
      rw [ih, e.1, e.2]

/-- Head 0's columns of a block of gains. -/
abbrev r0 : Rect S1x512 := Rect.unit (s := S1x512) ![0, 0] S1x128.size inb_S1x512_S1x128_0_0

/-- Head 1's columns of a block of gains. -/
abbrev r1 : Rect S1x512 := Rect.unit (s := S1x512) ![0, 128] S1x128.size inb_S1x512_S1x128_0_128

/-- A point's block from the normalised rows, the point's columns of the weights and its gains. -/
def blockOut (x : Vec Ideal S512x1024 .bf16) (w : Vec Ideal S1024x512 .bf16) (g : Vec Ideal S1x512 .f32) : FVec Ideal S512x512 .f32 :=
  k0_pay1 (k0_pay3 x w) (k0_pay4 x w (View.ld g r0)) (k0_pay5 x w) (k0_pay6 (View.ld g r1)) (k0_pay7 (F := Ideal))

/-- What every point leaves in the output's buffer. -/
theorem out (c : Dev nD) (t : Fin cfg0.N) :
    (outsAt0 m c t.val t.isLt).1
      = blockOut (k0_pay2 (iblk m c 0 t) (iblk m c 1 t)) (iblk m c 2 t) (iblk m c 3 t) := by
  by_cases h0 : t.val % 3 = 0
  · rw [outsAt0_A m c t h0]
    frame_out
    rfl
  · rw [outsAt0_B m c t h0]
    have e := same_rows m c ⟨t.val - 1, Nat.lt_of_le_of_lt (Nat.sub_le _ _) t.isLt⟩ t (by show (t.val - 1) / 3 = t.val / 3; omega)
    rw [scratch m c, e.1, e.2]
    frame_out
    rw [read_unread_whole]
    rfl

/-! ## One head, on both sides -/

/-- Column `d` of the head that an element of a point's block lies in. -/
def col (y : S512x512.Idx) (d : Fin 128) : S512x512.Idx :=
  ix2 (y 0) ⟨(y 1).val / 128 * 128 + d.val, by have : (y 1).val < 512 := (y 1).isLt; have := d.isLt; omega⟩

/-- An element of a product `P`: a key divided by the root mean square of its head's row, times its gain; a value as it is. -/
def head (P : FVec Ideal S512x512 .f32) (g : Vec Ideal S1x512 .f32) (y : S512x512.Idx) : EReal :=
  if (y 1).val < 256 then
    P y * Ideal.rsqrt (Ideal.div (∑ d, P (col y d) * P (col y d)) (Ideal.ofBits FTy.f32 1124073472#32) + Ideal.ofBits FTy.f32 897988541#32) * g (ix2 0 (y 1))
  else P y

/-- A key's element, its places written in any way. -/
theorem head_key (P : FVec Ideal S512x512 .f32) (g : Vec Ideal S1x512 .f32) (y y' : S512x512.Idx) (z : Fin 512)
    (c : Fin 128 → S512x512.Idx) (hk : (y 1).val < 256) (hy : y' = y) (hz : z = y 1) (hc : ∀ d, c d = col y d) :
    P y' * Ideal.rsqrt (Ideal.div (∑ d, P (c d) * P (c d)) (Ideal.ofBits FTy.f32 1124073472#32) + Ideal.ofBits FTy.f32 897988541#32)
      * g (ix2 0 z) = head P g y := by
  obtain rfl : c = col y := funext hc
  subst hy hz
  exact (if_pos hk).symm

/-- A value's element, its place written in any way. -/
theorem head_value (P : FVec Ideal S512x512 .f32) (g : Vec Ideal S1x512 .f32) (y y' : S512x512.Idx)
    (hk : ¬ (y 1).val < 256) (hy : y' = y) : P y' = head P g y := by
  rw [hy]
  exact (if_neg hk).symm

/-- A point's block, head by head: two heads of keys, then two of values. -/
theorem heads (x : Vec Ideal S512x1024 .bf16) (w : Vec Ideal S1024x512 .bf16) (g : Vec Ideal S1x512 .f32) (y : S512x512.Idx) :
    blockOut x w g y = head (k0_pay3 x w) g y := by
  pointwise [blockOut, r0, r1, k0_pay1, k0_pay4, k0_pay5, k0_pay6, k0_pay7]
  have b : (y 1).val < 512 := (y 1).isLt
  by_cases h1 : (y 1).val < 128
  · rw [dif_pos h1]
    refine head_key _ g y _ _ _ (by omega) rfl rfl fun d => congrArg (ix2 (y 0)) (Fin.ext ?_)
    show d.val = (y 1).val / 128 * 128 + d.val
    omega
  rw [dif_neg h1]
  by_cases h2 : (y 1).val - 128 < 128
  · rw [dif_pos h2]
    refine head_key _ g y _ _ _ (by omega) ?_ (Fin.ext ?_) fun d => congrArg (ix2 (y 0)) (Fin.ext ?_)
    · refine funext fun a => Fin.ext ?_
      fin_cases a
      · rfl
      · show 128 + ((y 1).val - 128) = (y 1).val
        omega
    · show 128 + ((y 1).val - 128) = (y 1).val
      omega
    · show 128 + d.val = (y 1).val / 128 * 128 + d.val
      omega
  rw [dif_neg h2]
  by_cases h3 : (y 1).val - 128 - 128 < 128
  · rw [dif_pos h3]
    refine head_value _ g y _ (by omega) ?_
    refine funext fun a => Fin.ext ?_
    fin_cases a
    · rfl
    · show 256 + ((y 1).val - 128 - 128) = (y 1).val
      omega
  · rw [dif_neg h3]
    refine head_value _ g y _ (by omega) ?_
    refine funext fun a => Fin.ext ?_
    fin_cases a
    · rfl
    · show 384 + ((y 1).val - 128 - 128 - 128) = (y 1).val
      omega

/-- Column `d` of the head that an element of the keys and values lies in. -/
def colR (i : S32768x1536.Idx) (d : Fin 128) : S32768x1536.Idx :=
  ix2 (i 0) ⟨(i 1).val / 128 * 128 + d.val, by have : (i 1).val < 1536 := (i 1).isLt; have := d.isLt; omega⟩

/-- An element of a product `Q` as the reference leaves it: a key normalised in its head's row, times its gain; a value as it is. -/
def headR (Q : FVec Ideal S32768x1536 .f32) (x3 : FVec Ideal S3x128 .f32) (i : S32768x1536.Idx) : EReal :=
  if (i 1).val / 256 % 2 < 1 then
    Q i * Ideal.rsqrt (Ideal.div (∑ d, Q (colR i d) * Q (colR i d)) (Ideal.ofBits FTy.f32 1124073472#32) + Ideal.ofBits FTy.f32 897988541#32)
      * x3 (ix2 ⟨(i 1).val / 512, by have : (i 1).val < 1536 := (i 1).isLt; omega⟩ ⟨(i 1).val % 128, Nat.mod_lt _ (by decide)⟩)
  else Q i

/-- A key's element in the reference, its head's columns written in any way. -/
theorem headR_key (Q : FVec Ideal S32768x1536 .f32) (x3 : FVec Ideal S3x128 .f32) (i : S32768x1536.Idx)
    (c : Fin 128 → S32768x1536.Idx) (hk : (i 1).val / 256 % 2 < 1) (hc : ∀ d, c d = colR i d) (h1 h2) :
    Q i * Ideal.rsqrt (Ideal.div (∑ d, Q (c d) * Q (c d)) (Ideal.ofBits FTy.f32 1124073472#32) + Ideal.ofBits FTy.f32 897988541#32)
      * x3 (ix2 ⟨(i 1).val / 512, h1⟩ ⟨(i 1).val % 128, h2⟩) = headR Q x3 i := by
  obtain rfl : c = colR i := funext hc
  exact (if_pos hk).symm

/-- A value's element in the reference, its place written in any way. -/
theorem headR_value (Q : FVec Ideal S32768x1536 .f32) (x3 : FVec Ideal S3x128 .f32) (i i' : S32768x1536.Idx)
    (hk : ¬ (i 1).val / 256 % 2 < 1) (hi : i' = i) : Q i' = headR Q x3 i := by
  rw [hi]
  exact (if_neg hk).symm

/-- The reference at an index, from its product at that index and at the columns of the same head. -/
theorem ref_head (x0 : FVec Ideal S32768x1024 .f32) (x1 : FVec Ideal S1024 .f32) (x2 : FVec Ideal S1024x1536 .f32)
    (x3 : FVec Ideal S3x128 .f32) (i : S32768x1536.Idx) :
    REF x0 x1 x2 x3 i = headR (val_main_v13 (F := Ideal) x0 x1 x2) x3 i := by
  pointwise [REF, val_main_v14, val_main_v15, val_main_v16, val_main_v17, val_main_cst_2, val_main_v18, val_main_v19,
    val_main_cst_3, val_main_v20, val_main_v21, val_main_cst_4, val_main_v22, val_main_v23, val_main_v24, val_main_v25,
    val_main_v26, val_main_v27, val_main_v28, val_main_v29, val_main_v30, val_main_v31, val_main_v32]
  by_cases hk : (i 1).val / 256 % 2 < 1
  · rw [dif_pos hk]
    refine headR_key _ x3 i _ hk (fun d => congrArg (ix2 (i 0)) (Fin.ext ?_)) _ _
    show (i 1).val / 512 * 512 + (i 1).val / 128 % 2 * 128 + d.val = (i 1).val / 128 * 128 + d.val
    omega
  · rw [dif_neg hk]
    refine headR_value _ x3 i _ hk (funext fun a => Fin.ext ?_)
    fin_cases a
    · rfl
    · show (i 1).val / 512 * 512 + (1 + ((i 1).val / 256 % 2 - 1)) * 256 + (i 1).val / 128 % 2 * 128 + (i 1).val % 128 = (i 1).val
      omega

/-! ## The operands -/

/-- Stage 0's gains after the first fifteen operations: once for each of its four heads. -/
theorem stage0 (c : Dev nD) (z : S512.Idx) :
    (StableHlo.after ((hostOps0 (F := Ideal)).take 15) (fun b => m (c, b)) (Proc.devRef .tc main_v4) : FVec Ideal S512 .f32) z
      = m ((c : Thread nD τ).loc main_arg3) (ix2 0 ⟨(z 0).val % 128, Nat.mod_lt _ (by decide)⟩ : S3x128.Idx) := by
  simp only [hostOps0, List.take_succ_cons, List.take_zero]
  entry_read
  pointwise

/-- Stage 1's gains after the first fifteen operations: once for each of its four heads. -/
theorem stage1 (c : Dev nD) (z : S512.Idx) :
    (StableHlo.after ((hostOps0 (F := Ideal)).take 15) (fun b => m (c, b)) (Proc.devRef .tc main_v9) : FVec Ideal S512 .f32) z
      = m ((c : Thread nD τ).loc main_arg3) (ix2 1 ⟨(z 0).val % 128, Nat.mod_lt _ (by decide)⟩ : S3x128.Idx) := by
  simp only [hostOps0, List.take_succ_cons, List.take_zero]
  entry_read
  pointwise

/-- Stage 2's gains after the first fifteen operations: once for each of its four heads. -/
theorem stage2 (c : Dev nD) (z : S512.Idx) :
    (StableHlo.after ((hostOps0 (F := Ideal)).take 15) (fun b => m (c, b)) (Proc.devRef .tc main_v14) : FVec Ideal S512 .f32) z
      = m ((c : Thread nD τ).loc main_arg3) (ix2 2 ⟨(z 0).val % 128, Nat.mod_lt _ (by decide)⟩ : S3x128.Idx) := by
  simp only [hostOps0, List.take_succ_cons, List.take_zero]
  entry_read
  pointwise

/-- The last four operations over any contents: the row of gains is the three stages' side by side. -/
theorem joined (F : Valuation τ sig (Elt Ideal)) :
    (StableHlo.after ((hostOps0 (F := Ideal)).drop 15) F (Proc.devRef .tc main_v16) : FVec Ideal S1x1536 .f32)
      = shapeCast S1x1536 (concatenate S1536 0 [⟨S512, (F (Proc.devRef .tc main_v4) : FVec Ideal S512 .f32)⟩,
          ⟨S512, (F (Proc.devRef .tc main_v9) : FVec Ideal S512 .f32)⟩, ⟨S512, (F (Proc.devRef .tc main_v14) : FVec Ideal S512 .f32)⟩]
          concatenates_S512_S512_S512_S1536_d0) shapeCasts_S1536_S1x1536 := by
  simp only [hostOps0, List.drop_succ_cons, List.drop_zero, StableHlo.after_cons, StableHlo.after_nil]
  rw [StableHlo.reshape_result_ne _ _ _ _ _ _ _ (by decide), StableHlo.unary_result_ne _ _ _ _ _ _ (by decide), StableHlo.reshape_result,
    StableHlo.nary_result]
  rfl

/-- The joined row of three stages' gains at an index. -/
theorem joined_at (x3 : FVec Ideal S3x128 .f32) (g0 g1 g2 : FVec Ideal S512 .f32)
    (h0 : ∀ z, g0 z = x3 (ix2 0 ⟨(z 0).val % 128, Nat.mod_lt _ (by decide)⟩))
    (h1 : ∀ z, g1 z = x3 (ix2 1 ⟨(z 0).val % 128, Nat.mod_lt _ (by decide)⟩))
    (h2 : ∀ z, g2 z = x3 (ix2 2 ⟨(z 0).val % 128, Nat.mod_lt _ (by decide)⟩)) (z : S1x1536.Idx) :
    shapeCast S1x1536 (concatenate S1536 0 [⟨S512, g0⟩, ⟨S512, g1⟩, ⟨S512, g2⟩] concatenates_S512_S512_S512_S1536_d0)
        shapeCasts_S1536_S1x1536 z
      = x3 (ix2 ⟨(z 1).val / 512, by have : (z 1).val < 1536 := (z 1).isLt; omega⟩ ⟨(z 1).val % 128, Nat.mod_lt _ (by decide)⟩) := by
  have at_ : ∀ (a a' : Fin 3) (d d' : Fin 128), a.val = a'.val → d.val = d'.val → x3 (ix2 a d) = x3 (ix2 a' d') := by
    intro a a' d d' ha hd
    rw [Fin.ext ha, Fin.ext hd]
  have b : (z 1).val < 1536 := (z 1).isLt
  pointwise
  by_cases k1 : (z 1).val < 512
  · rw [dif_pos k1, h0]
    exact at_ _ _ _ _ (show 0 = (z 1).val / 512 by omega) rfl
  rw [dif_neg k1]
  by_cases k2 : (z 1).val - 512 < 512
  · rw [dif_pos k2, h1]
    exact at_ _ _ _ _ (show 1 = (z 1).val / 512 by omega) (show ((z 1).val - 512) % 128 = (z 1).val % 128 by omega)
  · rw [dif_neg k2, h2]
    exact at_ _ _ _ _ (show 2 = (z 1).val / 512 by omega) (show ((z 1).val - 512 - 512) % 128 = (z 1).val % 128 by omega)

/-- The kernel's row of gains: each stage's gains, once for each of its four heads. -/
theorem gains (c : Dev nD) (z : S1x1536.Idx) :
    V m c main_v16 z = m ((c : Thread nD τ).loc main_arg3)
      (ix2 ⟨(z 1).val / 512, by have : (z 1).val < 1536 := (z 1).isLt; omega⟩ ⟨(z 1).val % 128, Nat.mod_lt _ (by decide)⟩) :=
  (congrFun (joined _) z).trans (joined_at _ _ _ _ (stage0 m c) (stage1 m c) (stage2 m c) z)

/-- A point's gains: its stage's, the same for each of its four heads. -/
theorem gain (c : Dev nD) (t : Fin cfg0.N) (k : Fin 512) :
    iblk m c 3 t (ix2 0 k) = m ((c : Thread nD τ).loc main_arg3)
      (ix2 ⟨t.val % 3, Nat.mod_lt _ (by decide)⟩ ⟨k.val % 128, Nat.mod_lt _ (by decide)⟩) := by
  blk_simp [iblk]
  rw [gains]
  blk_ext [idx t]

/-- A point's product of normalised rows and weights is the reference's at the point's place. -/
theorem product (c : Dev nD) (t : Fin cfg0.N) (y : S512x512.Idx) :
    k0_pay3 (k0_pay2 (iblk m c 0 t) (iblk m c 1 t)) (iblk m c 2 t) y
      = val_main_v13 (F := Ideal) (m ((c : Thread nD τ).loc main_arg0)) (m ((c : Thread nD τ).loc main_arg1)) (m ((c : Thread nD τ).loc main_arg2))
          (((cfg0.win 4).blk t).view.emb y) := by
  pointwise [k0_pay2, k0_pay3, val_main_v0, val_main_cst, val_main_v1, val_main_v2, val_main_cst_0, val_main_v3, val_main_v4,
    val_main_cst_1, val_main_v5, val_main_v6, val_main_v7, val_main_v8, val_main_v9, val_main_v10, val_main_v11, val_main_v12,
    val_main_v13]
  blk_point [iblk, V, idx t]

/-- Where an element of a point's block lies in the array. -/
theorem place (t : Fin cfg0.N) (y : S512x512.Idx) :
    ((((cfg0.win 4).blk t).view.emb y) 0).val = t.val / 3 * 512 + (y 0).val
      ∧ ((((cfg0.win 4).blk t).view.emb y) 1).val = t.val % 3 * 512 + (y 1).val := by
  constructor
  · show win0_4.index t 0 * 512 + 1 * (y 0).val = _
    rw [(idx t).2.2.2.2]
    show t.val / 3 * 512 + 1 * (y 0).val = _
    omega
  · show win0_4.index t 1 * 512 + 1 * (y 1).val = _
    rw [(idx t).2.2.2.2]
    show t.val % 3 * 512 + 1 * (y 1).val = _
    omega

/-- The columns of a head in a point's block lie at the columns of that head in the array. -/
theorem col_place (t : Fin cfg0.N) (y : S512x512.Idx) (d : Fin 128) :
    ((cfg0.win 4).blk t).view.emb (col y d) = colR (((cfg0.win 4).blk t).view.emb y) d := by
  refine funext fun a => Fin.ext ?_
  fin_cases a
  · exact (place t (col y d)).1.trans (place t y).1.symm
  · refine (place t (col y d)).2.trans ?_
    show t.val % 3 * 512 + ((y 1).val / 128 * 128 + d.val) = ((((cfg0.win 4).blk t).view.emb y) 1).val / 128 * 128 + d.val
    rw [(place t y).2]
    omega

/-- Both sides' elements agree where the products of their heads and their gains do. -/
theorem same_head (P : FVec Ideal S512x512 .f32) (g : Vec Ideal S1x512 .f32) (y : S512x512.Idx) (Q : FVec Ideal S32768x1536 .f32)
    (x3 : FVec Ideal S3x128 .f32) (i : S32768x1536.Idx) (hk : (i 1).val / 256 % 2 < 1 ↔ (y 1).val < 256)
    (hP : P y = Q i) (hc : ∀ d, P (col y d) = Q (colR i d))
    (hg : g (ix2 0 (y 1)) = x3 (ix2 ⟨(i 1).val / 512, by have : (i 1).val < 1536 := (i 1).isLt; omega⟩ ⟨(i 1).val % 128, Nat.mod_lt _ (by decide)⟩)) :
    head P g y = headR Q x3 i := by
  unfold head headR
  simp only [hk, hP, hg, hc]

/-- A column of a point's block holds a key where its place in the array does. -/
theorem key_place (t : Fin cfg0.N) (y : S512x512.Idx) (i : S32768x1536.Idx) (hi : (i 1).val = t.val % 3 * 512 + (y 1).val) :
    (i 1).val / 256 % 2 < 1 ↔ (y 1).val < 256 := by
  have b : (y 1).val < 512 := (y 1).isLt
  omega

/-- The gain of an element of a point's block is the gain at its place in the array. -/
theorem gain_place (c : Dev nD) (t : Fin cfg0.N) (y : S512x512.Idx) (i : S32768x1536.Idx)
    (hi : (i 1).val = t.val % 3 * 512 + (y 1).val) :
    iblk m c 3 t (ix2 0 (y 1)) = m ((c : Thread nD τ).loc main_arg3)
      (ix2 ⟨(i 1).val / 512, by have : (i 1).val < 1536 := (i 1).isLt; omega⟩ ⟨(i 1).val % 128, Nat.mod_lt _ (by decide)⟩) := by
  have b : (y 1).val < 512 := (y 1).isLt
  refine (gain m c t (y 1)).trans (congrArg (m ((c : Thread nD τ).loc main_arg3)) (funext fun a => Fin.ext ?_))
  fin_cases a
  · show t.val % 3 = (i 1).val / 512
    omega
  · show (y 1).val % 128 = (i 1).val % 128
    omega

/-- What the body leaves at an index of a point's block is the reference at that index's place in the array. -/
theorem point (c : Dev nD) (t : Fin cfg0.N) (y : S512x512.Idx) :
    blockOut (k0_pay2 (iblk m c 0 t) (iblk m c 1 t)) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) :=
  (heads _ _ _ y).trans ((same_head _ _ y _ _ _ (key_place t y _ (place t y).2) (product m c t y)
    (fun d => (product m c t _).trans (congrArg _ (col_place t y d))) (gain_place m c t y _ (place t y).2)).trans
      (ref_head _ _ _ _ _).symm)

/-- The result array after the run. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4, out]
  exact point m c t y

/-- The value claim: the program and the reference end with one array. -/
theorem algebraic : Cert.algebraic_Kernel5Ideal_Reference5Ideal := by
  pair_intro
  · run_from Cert.Kernel5Ideal.Value.run_blocks m g
  · run_from Cert.Reference5Ideal.Value.run m' g'
    have a := hagree c
    rw [val_main_v32_eq, a.1, a.2.1, a.2.2.1, a.2.2.2]
    exact (final m c).symm

end Cert.SharedKv

end
-- ==== Proof.OutProj.lean ====
/-
  The output projection with the residual added (`_matmul_residual`): one block of the grid, then the whole array.

  A grid point multiplies 512 rows of the activations with 512 columns of the weights and adds the residual's block;
  nothing is carried from point to point, so the array after the run is the reference's `h + o @ w` index by index.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim
public import Idealize.ShloMosaic.Lib.Pipeline.ValueKit

@[expose] public section

set_option maxRecDepth 16384

noncomputable section

namespace Cert.OutProj

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The reference's term: the residual plus the product. -/
abbrev REF (x0 : FVec Ideal S32768x1024 .bf16) (x1 : FVec Ideal S1024x1024 .f32) (x2 : FVec Ideal S32768x1024 .f32) :
    FVec Ideal S32768x1024 .f32 :=
  Cert.Reference6Ideal.Read.val_main_v2 (F := Ideal) x0 x1 x2

/-- Where each window's block lies: rows by the first grid axis, columns by the second. -/
theorem idx : ∀ t : Fin cfg0.N,
    win0_0.index t = ![(grid0.coords t 0).val, 0] ∧ win0_1.index t = ![0, (grid0.coords t 1).val]
      ∧ win0_2.index t = ![(grid0.coords t 0).val, (grid0.coords t 1).val]
      ∧ win0_3.index t = ![(grid0.coords t 0).val, (grid0.coords t 1).val] :=
  (by decide +kernel : ∀ t : Fin grid0.N, _)

/-- What the body stores at an index of a point's block is the reference at that index's place in the array. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1)) (m ((c : Thread nD τ).loc main_arg2))
          (((cfg0.win 3).blk t).view.emb y) := by
  pointwise [k0_pay1, REF, Cert.Reference6Ideal.Read.val_main_v2, Cert.Reference6Ideal.Read.val_main_v1,
    Cert.Reference6Ideal.Read.val_main_v0]
  blk_point [iblk, V, idx t]

/-- The result array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The value claim: the program and the reference end with one array. -/
theorem algebraic : Cert.algebraic_Kernel6Ideal_Reference6Ideal := by
  pair_intro
  · run_from Cert.Kernel6Ideal.Value.run_blocks m g
  · run_from Cert.Reference6Ideal.Value.run m' g'
    exact (final m c).symm

end Cert.OutProj

end
-- ==== Proof.AttnOut.lean ====
/-
  The attention's output projection with the residual added: the function of `OutProj` at 512 inner columns.

  A grid point multiplies its rows of the attention's output with 512 columns of the weights and adds the residual's
  block; the whole array is the reference's `h + o @ w`.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim
public import Idealize.ShloMosaic.Lib.Pipeline.ValueKit

@[expose] public section

set_option maxRecDepth 16384

noncomputable section

namespace Cert.AttnOut

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The reference's term: the residual plus the product. -/
abbrev REF (x0 : FVec Ideal S32768x512 .bf16) (x1 : FVec Ideal S512x1024 .f32) (x2 : FVec Ideal S32768x1024 .f32) :
    FVec Ideal S32768x1024 .f32 :=
  Cert.Reference7Ideal.Read.val_main_v2 (F := Ideal) x0 x1 x2

/-- Where each window's block lies: rows by the first grid axis, columns by the second. -/
theorem idx : ∀ t : Fin cfg0.N,
    win0_0.index t = ![(grid0.coords t 0).val, 0] ∧ win0_1.index t = ![0, (grid0.coords t 1).val]
      ∧ win0_2.index t = ![(grid0.coords t 0).val, (grid0.coords t 1).val]
      ∧ win0_3.index t = ![(grid0.coords t 0).val, (grid0.coords t 1).val] :=
  (by decide +kernel : ∀ t : Fin grid0.N, _)

/-- What the body stores at an index of a point's block is the reference at that index's place in the array. -/
theorem point (c : Dev nD) (t : Fin cfg0.N) (y) :
    k0_pay1 (iblk m c 2 t) (iblk m c 0 t) (iblk m c 1 t) y
      = REF (m ((c : Thread nD τ).loc main_arg0)) (m ((c : Thread nD τ).loc main_arg1)) (m ((c : Thread nD τ).loc main_arg2))
          (((cfg0.win 3).blk t).view.emb y) := by
  pointwise [k0_pay1, REF, Cert.Reference7Ideal.Read.val_main_v2, Cert.Reference7Ideal.Read.val_main_v1,
    Cert.Reference7Ideal.Read.val_main_v0]
  blk_point [iblk, V, idx t]

/-- The result array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The value claim: the program and the reference end with one array. -/
theorem algebraic : Cert.algebraic_Kernel7Ideal_Reference7Ideal := by
  pair_intro
  · run_from Cert.Kernel7Ideal.Value.run_blocks m g
  · run_from Cert.Reference7Ideal.Value.run m' g'
    exact (final m c).symm

end Cert.AttnOut

end
-- ==== Proof.BaProj.lean ====
/-
  The projection to the delta mixer's beta and decay (`_rms_matmul` as `dn_ba_proj`): rows normalised, then multiplied by
  the last 16 columns of the weights, which the host pads with zeros to 128.

  Every grid point normalises its own 512 rows. In the padded columns the product is a sum of zeros, as in the reference,
  which pads the product instead of the weights.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Claim
public import Idealize.ShloMosaic.Lib.Pipeline.ReadBack
public import Idealize.ShloMosaic.Lib.Pipeline.ValueKit

@[expose] public section

set_option maxRecDepth 16384

noncomputable section

namespace Cert.BaProj

open Idealize.ShloMosaic Idealize.ShloMosaic.TcCoe Idealize.SL.Sem
open Idealize.ShloMosaic.Pipeline (Dat)
open Cert.Kernel8Ideal Cert.Kernel8Ideal.Gen
open Cert.Reference8Ideal.Read

variable (m : (ℓ : Loc nD τ sig) → Buf (Elt Ideal) ℓ)

/-- The reference's term: the normalised rows times the weights, the last 16 columns, padded with zeros. -/
abbrev REF (x0 : FVec Ideal S32768x1024 .f32) (x1 : FVec Ideal S1024 .f32) (x2 : FVec Ideal S1024x4112 .f32) :
    FVec Ideal S32768x128 .f32 :=
  val_main_v15 (F := Ideal) x0 x1 x2

/-- Where each window's block lies: rows by the point's position. -/
theorem idx : ∀ t : Fin cfg0.N,
    win0_0.index t = ![t.val, 0] ∧ win0_1.index t = ![0, 0] ∧ win0_2.index t = ![0, 0] ∧ win0_4.index t = ![t.val, 0] :=
  (by decide +kernel : ∀ t : Fin grid0.N, _)

/-- The gain's row as the call takes it. -/
theorem gain_whole (c : Dev nD) : (V m c main_v4 : FVec Ideal S1x1024 .f32)
    = shapeCast S1x1024 (m ((c : Thread nD τ).loc main_arg1) : FVec Ideal S1024 .f32) shapeCasts_S1024_S1x1024 := by
  simp only [V, List.flatten_cons, List.flatten_nil, hostOps0, hostOps0_1, hostOps0_2, List.cons_append, List.nil_append, List.append_nil]
  entry_read
  rfl

/-- The gain as the call takes it, read from the argument. -/
theorem gain (c : Dev nD) (z : S1x1024.Idx) :
    (V m c main_v4 : FVec Ideal S1x1024 .f32) z = (m ((c : Thread nD τ).loc main_arg1) : FVec Ideal S1024 .f32) (ix1 (z 1)) := by
  rw [gain_whole]
  pointwise

/-- The last 16 columns, padded with zeros and rounded. -/
abbrev padded (x : FVec Ideal S1024x4112 .f32) : FVec Ideal S1024x128 .bf16 :=
  truncf .bf16 (pad S1024x128 ![0, 0] ![0, 112] ![0, 0] (extractStridedSlice S1024x16 ![0, 4096] x slices_S1024x4112_S1024x16_0_4096)
    (sitofp (F := Ideal) .f32 (constantI S_ 32 0#32)) pads_S1024x16_S1024x128_000_01120 h_S_) bitsLt_bf16_f32

/-- The weights as the call takes them, as one array. -/
theorem weights_whole (c : Dev nD) : (V m c main_v2 : FVec Ideal S1024x128 .bf16) = padded (m ((c : Thread nD τ).loc main_arg2)) := by
  simp only [V, List.flatten_cons, List.flatten_nil, hostOps0, hostOps0_1, hostOps0_2, List.cons_append, List.nil_append, List.append_nil]
  entry_read
  rfl

/-- The integer 0 as a number. -/
theorem zero_word : (FloatOps.sitofp .f32 0#32 : Ideal .f32) = (0 : EReal) := by
  show (((0#32 : BitVec 32).toInt : ℝ) : EReal) = 0
  simp

/-- The weights as the call takes them: the last 16 columns of the argument, then zeros. -/
theorem weights (c : Dev nD) (z : S1024x128.Idx) :
    (V m c main_v2 : FVec Ideal S1024x128 .bf16) z
      = if h : (z 1).val < 16 then
          (m ((c : Thread nD τ).loc main_arg2) : FVec Ideal S1024x4112 .f32) (ix2 (z 0) ⟨4096 + (z 1).val, by omega⟩)
        else (0 : EReal) := by
  rw [weights_whole]
  pointwise [padded]
  rw [zero_word]

/-- What every point leaves in the output's buffer: the product of its normalised rows with the padded weights. -/
theorem out (c : Dev nD) (t : Fin cfg0.N) :
    outsAt0 m c t = k0_pay2 (k0_pay1 (iblk m c 0 t) (iblk m c 1 t)) (iblk m c 2 t) := by
  unfold outsAt0
  frame_out

/-- What the body leaves at an index of a point's block is the reference at that index's place in the array. -/
theorem point (c : Dev nD) (t : Fin cfg0.N) (y) :
    k0_pay2 (k0_pay1 (iblk m c 0 t) (iblk m c 1 t)) (iblk m c 2 t) y
      = REF (m ((c : Thread nD τ).loc main_arg0)) (m ((c : Thread nD τ).loc main_arg1)) (m ((c : Thread nD τ).loc main_arg2))
          (((cfg0.win 4).blk t).view.emb y) := by
  pointwise [k0_pay1, k0_pay2, REF, val_main_v0, val_main_cst, val_main_v1, val_main_v2, val_main_cst_0, val_main_v3, val_main_v4,
    val_main_cst_1, val_main_v5, val_main_v6, val_main_v7, val_main_v8, val_main_v9, val_main_v10, val_main_v11, val_main_v12,
    val_main_v13, val_main_v14, val_main_v15, val_main_c, val_main_call0_v0]
  by_cases h : (y 1).val < 16
  · rw [dif_pos (show (((cfg0.win 4).blk t).view.emb y 1).val < 16 by blk_simp [idx t]; exact h)]
    blk_point [iblk, V, gain m c, weights m c, idx t]
    rw [dif_pos h]
    blk_ext [idx t]
  · rw [dif_neg (show ¬ (((cfg0.win 4).blk t).view.emb y 1).val < 16 by blk_simp [idx t]; exact h), zero_word]
    refine Finset.sum_eq_zero fun x _ => ?_
    rw [show iblk m c 2 t (ix2 x (y 1)) = (0 : EReal) by
      blk_simp [iblk]
      rw [weights, dif_neg]
      blk_simp [idx t]
      exact h]
    exact mul_zero _

/-- The result array after the run. -/
theorem final (c : Dev nD) : (dats m 0 c).arrAt 4 cfg0.N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, out]
  exact point m c t y

/-- The value claim: the program and the reference end with one array. -/
theorem algebraic : Cert.algebraic_Kernel8Ideal_Reference8Ideal := by
  pair_intro
  · run_from Cert.Kernel8Ideal.Value.run_blocks m g
  · run_from Cert.Reference8Ideal.Value.run m' g'
    exact (final m c).symm

end Cert.BaProj

end
-- ==== Proof.RouterRows.lean ====
/-
  The router (`_moe_router`), of its results the normalised rows that the experts are given.

  At the first point the counts of rows per expert are cleared, at all others carried on; the rows of a point do not depend
  on them. So at every point the first output's block is the point's own rows, normalised.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Claim
public import Idealize.ShloMosaic.Lib.Pipeline.ReadBack
public import Idealize.ShloMosaic.Lib.Pipeline.ValueKit

@[expose] public section

set_option maxRecDepth 16384

noncomputable section

namespace Cert.RouterRows

open Idealize.ShloMosaic Idealize.ShloMosaic.TcCoe Idealize.SL.Sem
open Idealize.ShloMosaic.Pipeline (Dat)
open Cert.Kernel9Ideal Cert.Kernel9Ideal.Gen
open Cert.Reference9Ideal.Read

variable (m : (ℓ : Loc nD τ sig) → Buf (Elt Ideal) ℓ)

/-- The reference's term: the normalised rows. -/
abbrev REF (x0 : FVec Ideal S32768x1024 .f32) (x1 : FVec Ideal S1024 .f32) : FVec Ideal S32768x1024 .f32 :=
  val_main_v12 (F := Ideal) x0 x1

/-- Where each window's block lies: rows by the point's position. -/
theorem idx : ∀ t : Fin cfg0.N,
    win0_0.index t = ![t.val, 0] ∧ win0_1.index t = ![0, 0] ∧ win0_5.index t = ![t.val, 0] :=
  (by decide +kernel : ∀ t : Fin grid0.N, _)

/-- The gain's row as the call takes it. -/
theorem gain_whole (c : Dev nD) : (V m c main_v7 : FVec Ideal S1x1024 .f32)
    = shapeCast S1x1024 (m ((c : Thread nD τ).loc main_arg1) : FVec Ideal S1024 .f32) shapeCasts_S1024_S1x1024 := by
  simp only [V, List.flatten_cons, List.flatten_nil, hostOps0, hostOps0_1, hostOps0_2, hostOps0_3, hostOps0_4, hostOps0_5, hostOps0_6,
    List.cons_append, List.nil_append, List.append_nil]
  entry_read
  rfl

/-- The gain as the call takes it, read from the argument. -/
theorem gain (c : Dev nD) (z : S1x1024.Idx) :
    (V m c main_v7 : FVec Ideal S1x1024 .f32) z = (m ((c : Thread nD τ).loc main_arg1) : FVec Ideal S1024 .f32) (ix1 (z 1)) := by
  rw [gain_whole]
  pointwise

/-- What every point leaves in the first output's buffer: its rows, normalised. -/
theorem out (c : Dev nD) (t : Fin cfg0.N) :
    (outsAt0 m c t.val t.isLt).1 = k0_pay3 (iblk m c 0 t) (iblk m c 1 t) := by
  by_cases h0 : t.val % 64 = 0
  · rw [outsAt0_A m c t h0]
    frame_out
  · rw [outsAt0_B m c t h0]
    frame_out

/-- What the body leaves at an index of a point's block is the reference at that index's place in the array. -/
theorem point (c : Dev nD) (t : Fin cfg0.N) (y) :
    k0_pay3 (iblk m c 0 t) (iblk m c 1 t) y
      = REF (m ((c : Thread nD τ).loc main_arg0)) (m ((c : Thread nD τ).loc main_arg1)) (((cfg0.win 5).blk t).view.emb y) := by
  pointwise [k0_pay3, REF, val_main_v0, val_main_cst, val_main_v1, val_main_v2, val_main_cst_0, val_main_v3, val_main_v4,
    val_main_cst_1, val_main_v5, val_main_v6, val_main_v7, val_main_v8, val_main_v9, val_main_v10, val_main_v11, val_main_v12]
  blk_point [iblk, V, gain m c, idx t]

/-- The result array after the run. -/
theorem final (c : Dev nD) : (dats m 0 c).arrAt 5 cfg0.N
    = REF (m ((c : Thread nD τ).loc main_arg0)) (m ((c : Thread nD τ).loc main_arg1)) := by
  refine (dats m 0 c).arrAt_eq_of_covers 5 _ (by decide +kernel) fun t _ y => ?_
  blk_simp
  rw [after0_5, out]
  exact point m c t y

/-- The value claim: the program and the reference end with one array. -/
theorem algebraic : Cert.algebraic_Kernel9Ideal_Reference9Ideal := by
  pair_intro
  · run_from Cert.Kernel9Ideal.Value.run_blocks m g
  · run_from Cert.Reference9Ideal.Value.run m' g'
    exact (final m c).symm

end Cert.RouterRows

end
-- ==== Proof.lean ====
/-
  The claims of this certificate, joined.

  Program 1 is the experts' (`_moe_mlp`), under the precondition that its tables are in range; 2 the per-layer embeddings
  (`_ple`), 3 the delta mixer's in-projection (`_rms_matmul`), 4 the queries (`_q_proj`),
  5 the shared keys and values (`_shared_kv`), 6 the delta mixer's out-projection (`_matmul_residual`),
  7 the attention's (the same function at 512 inner columns), 8 the delta mixer's
  projection to beta and decay (`_rms_matmul`), 9 the router (`_moe_router`), of whose results its normalised rows.
-/
module

public import proofs.«01_k».proof.Defs
public import proofs.«01_k».proof.Proof.MoeClaims
public import proofs.«01_k».proof.Proof.Ple
public import proofs.«01_k».proof.Proof.InProj
public import proofs.«01_k».proof.Proof.QProj
public import proofs.«01_k».proof.Proof.SharedKv
public import proofs.«01_k».proof.Proof.OutProj
public import proofs.«01_k».proof.Proof.AttnOut
public import proofs.«01_k».proof.Proof.BaProj
public import proofs.«01_k».proof.Proof.RouterRows
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Pre_in_range
public import Idealize.ShloMosaic.Lib.Claim
public import Idealize.ShloMosaic.Lib.Quiescent

@[expose] public section

noncomputable section

namespace Cert.Proof

open Idealize.ShloMosaic Idealize.SL.Sem

/-! ## The references end with their arguments as they were; they have no semaphore -/

theorem reference1 : Cert.quiescent_ReferenceIdeal := fun m g _ =>
  (θ_run _ _ _).mono (fun r h => ⟨fun c => (h c).2, sem_eq_zero_of_no_sems (by decide) r.2⟩)
    (Cert.ReferenceIdeal.Value.run m g)

theorem reference1_in_range [Cert.Pre_in_range.Facts] : Cert.quiescent_ReferenceIdeal_pre_in_range :=
  fun m g _ => reference1 m g trivial

theorem reference2 : Cert.quiescent_Reference2Ideal := fun m g _ =>
  (θ_run _ _ _).mono (fun r h => ⟨fun c => (h c).2, sem_eq_zero_of_no_sems (by decide) r.2⟩)
    (Cert.Reference2Ideal.Value.run m g)

theorem reference3 : Cert.quiescent_Reference3Ideal := fun m g _ =>
  (θ_run _ _ _).mono (fun r h => ⟨fun c => (h c).2, sem_eq_zero_of_no_sems (by decide) r.2⟩)
    (Cert.Reference3Ideal.Value.run m g)

theorem reference4 : Cert.quiescent_Reference4Ideal := fun m g _ =>
  (θ_run _ _ _).mono (fun r h => ⟨fun c => (h c).2, sem_eq_zero_of_no_sems (by decide) r.2⟩)
    (Cert.Reference4Ideal.Value.run m g)

theorem reference5 : Cert.quiescent_Reference5Ideal := fun m g _ =>
  (θ_run _ _ _).mono (fun r h => ⟨fun c => (h c).2, sem_eq_zero_of_no_sems (by decide) r.2⟩)
    (Cert.Reference5Ideal.Value.run m g)

theorem reference6 : Cert.quiescent_Reference6Ideal := fun m g _ =>
  (θ_run _ _ _).mono (fun r h => ⟨fun c => (h c).2, sem_eq_zero_of_no_sems (by decide) r.2⟩)
    (Cert.Reference6Ideal.Value.run m g)

theorem reference7 : Cert.quiescent_Reference7Ideal := fun m g _ =>
  (θ_run _ _ _).mono (fun r h => ⟨fun c => (h c).2, sem_eq_zero_of_no_sems (by decide) r.2⟩)
    (Cert.Reference7Ideal.Value.run m g)

theorem reference8 : Cert.quiescent_Reference8Ideal := fun m g _ =>
  (θ_run _ _ _).mono (fun r h => ⟨fun c => (h c).2, sem_eq_zero_of_no_sems (by decide) r.2⟩)
    (Cert.Reference8Ideal.Value.run m g)

theorem reference9 : Cert.quiescent_Reference9Ideal := fun m g _ =>
  (θ_run _ _ _).mono (fun r h => ⟨fun c => (h c).2, sem_eq_zero_of_no_sems (by decide) r.2⟩)
    (Cert.Reference9Ideal.Value.run m g)

/-! ## All the claims -/

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_in_range.Gen.facts,
    Cert.Moe.quiescent_bits, Cert.Moe.quiescent_ideal, reference1, reference1_in_range,
    fun m g _ => Cert.Kernel2.Gen.frame m g, fun m g _ => Cert.Kernel2Ideal.Gen.frame m g, reference2,
    fun m g _ => Cert.Kernel3.Gen.frame m g, fun m g _ => Cert.Kernel3Ideal.Gen.frame m g, reference3,
    fun m g _ => Cert.Kernel4.Gen.frame m g, fun m g _ => Cert.Kernel4Ideal.Gen.frame m g, reference4,
    fun m g _ => Cert.Kernel5.Gen.frame m g, fun m g _ => Cert.Kernel5Ideal.Gen.frame m g, reference5,
    fun m g _ => Cert.Kernel6.Gen.frame m g, fun m g _ => Cert.Kernel6Ideal.Gen.frame m g, reference6,
    fun m g _ => Cert.Kernel7.Gen.frame m g, fun m g _ => Cert.Kernel7Ideal.Gen.frame m g, reference7,
    fun m g _ => Cert.Kernel8.Gen.frame m g, fun m g _ => Cert.Kernel8Ideal.Gen.frame m g, reference8,
    fun m g _ => Cert.Kernel9.Gen.frame m g, fun m g _ => Cert.Kernel9Ideal.Gen.frame m g, reference9,
    trivial, Cert.Moe.algebraic,
    trivial, Cert.Ple.algebraic,
    trivial, Cert.InProj.algebraic,
    trivial, Cert.QProj.algebraic,
    trivial, Cert.SharedKv.algebraic,
    trivial, Cert.OutProj.algebraic,
    trivial, Cert.AttnOut.algebraic,
    trivial, Cert.BaProj.algebraic,
    trivial, Cert.RouterRows.algebraic⟩

end Cert.Proof

end
